-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawable [hPre_drawable : Cert.Pre_drawable.Facts] (m : (ℓ : Loc Cert.KernelIdeal.nD Cert.KernelIdeal.τ Cert.KernelIdeal.sig) → Buf (Elt Ideal) ℓ) : Prop :=
  ∀ c : Dev Cert.KernelIdeal.nD,
    (Cert.Pre_drawable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawable [hPre_drawable : Cert.Pre_drawable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_drawable [hKernelIdeal : Cert.KernelIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_drawable [hReferenceIdeal : Cert.ReferenceIdeal.Facts] [hPre_drawable : Cert.Pre_drawable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_drawable [hKernelIdeal : Cert.KernelIdeal.Facts] [hReferenceIdeal : Cert.ReferenceIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_drawable : Cert.Pre_drawable.Facts),
    quiescent_Kernel (hKernel := hKernel)
    ∧ quiescent_KernelIdeal (hKernelIdeal := hKernelIdeal)
    ∧ quiescent_KernelIdeal_pre_drawable (hKernelIdeal := hKernelIdeal) (hPre_drawable := hPre_drawable)
    ∧ quiescent_ReferenceIdeal (hReferenceIdeal := hReferenceIdeal)
    ∧ quiescent_ReferenceIdeal_pre_drawable (hReferenceIdeal := hReferenceIdeal) (hPre_drawable := hPre_drawable)
    ∧ preserves_Kernel_KernelIdeal
    ∧ algebraic_KernelIdeal_ReferenceIdeal_pre_drawable (hKernelIdeal := hKernelIdeal) (hReferenceIdeal := hReferenceIdeal) (hPre_drawable := hPre_drawable)
-- ==== Pre_drawable.lean ====
abbrev S64x10x100000 : Shape := ⟨3, ![64, 10, 100000]⟩
abbrev S_ : Shape := ⟨0, ![]⟩
abbrev S64x10 : Shape := ⟨2, ![64, 10]⟩

class Facts : Prop where
  bcast_S_S64x10x100000 : S_.BroadcastsInDim S64x10x100000 (![] : Fin 0 → Fin S64x10x100000.rank)
  reducesTo_S64x10x100000_S64x10_d2 : S64x10x100000.ReducesTo [2] S64x10
  h_S_ : 0 < S_.numel
  reducesTo_S64x10_S_d0_1 : S64x10.ReducesTo [0, 1] S_

variable [Facts]

def fn {F : FTy → Type} [FloatOps F] (main_arg0 : FVec F S64x10x100000 .f32) : IVec S_ 1 :=
  let main_cst : FVec F S_ .f32 := constant S_ .f32 0x00000000#32
  let main_v0 : FVec F S64x10x100000 .f32 := broadcastInDim S64x10x100000 ![] bcast_S_S64x10x100000 main_cst
  let main_v1 : IVec S64x10x100000 1 := cmpf .oge main_arg0 main_v0
  let main_c : IVec S_ 1 := constantI S_ 1 0#1
  let main_v2 : IVec S64x10 1 := (fun x v => Host.reduce IntOp.ori x v reducesTo_S64x10x100000_S64x10_d2 h_S_) main_v1 main_c
  let main_c_0 : IVec S_ 1 := constantI S_ 1 1#1
  let main_v3 : IVec S_ 1 := (fun x v => Host.reduce IntOp.andi x v reducesTo_S64x10_S_d0_1 h_S_) main_v2 main_c_0
  main_v3
-- ==== Kernel.lean ====
abbrev S64x10x100000 : Shape := ⟨3, ![64, 10, 100000]⟩
abbrev S640x100000 : Shape := ⟨2, ![640, 100000]⟩
abbrev S640x672 : Shape := ⟨2, ![640, 672]⟩
abbrev S_ : Shape := ⟨0, ![]⟩
abbrev S640x1024 : Shape := ⟨2, ![640, 1024]⟩
abbrev S80x1x8 : Shape := ⟨3, ![80, 1, 8]⟩
abbrev S64x10 : Shape := ⟨2, ![64, 10]⟩
abbrev S8x1024 : Shape := ⟨2, ![8, 1024]⟩
abbrev S1x1x8 : Shape := ⟨3, ![1, 1, 8]⟩
abbrev S8x100000 : Shape := ⟨2, ![8, 100000]⟩
abbrev S8 : Shape := ⟨1, ![8]⟩
abbrev S8x1 : Shape := ⟨2, ![8, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x10x100000, .f32⟩
  | .hbm, ⟨1, _⟩ => ⟨S640x100000, .f32⟩
  | .hbm, ⟨2, _⟩ => ⟨S640x672, .f32⟩
  | .hbm, ⟨3, _⟩ => ⟨S_, .i32⟩
  | .hbm, ⟨4, _⟩ => ⟨S_, .f32⟩
  | .hbm, ⟨5, _⟩ => ⟨S640x1024, .f32⟩
  | .hbm, ⟨6, _⟩ => ⟨S80x1x8, .i32⟩
  | .hbm, ⟨7, _⟩ => ⟨S64x10, .i32⟩
  | .local _ .vmem, ⟨0, _⟩ => ⟨S8x1024, .f32⟩
  | .local _ .vmem, ⟨1, _⟩ => ⟨S8x1024, .f32⟩
  | .local _ .vmem, ⟨2, _⟩ => ⟨S1x1x8, .i32⟩
  | .local _ .vmem, ⟨3, _⟩ => ⟨S1x1x8, .i32⟩
  | .local _ .vmem, ⟨4, _⟩ => ⟨S8x100000, .f32⟩
  | .local _ .vmem, ⟨5, _⟩ => ⟨S8x100000, .f32⟩
  | _, _ => ⟨S64x10x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_c : Ref sig .tc := ⟨.hbm, 3, rfl⟩
abbrev main_call0_call0_v0 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![80], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_0 : BitVec 32 := 0#32
  let v12 : BitVec 1 := Scalar.cmpi .ne v11 c0_i32_0
  v12

def k0_off1 (i : grid0.Coords) : Fin 2 → Nat :=
  let arg0 : BitVec 32 := BitVec.ofNat 32 (i 0).val
  let c8_i32_64 : BitVec 32 := 8#32
  let v250 : BitVec 32 := Scalar.muli arg0 c8_i32_64
  let c0_i32_65 : BitVec 32 := 0#32
  ![v250.toNat, 0]
def k0_cond2 (i : grid0.Coords) : BitVec 1 :=
  let arg0 : BitVec 32 := BitVec.ofNat 32 (i 0).val
  let c2_i32 : BitVec 32 := 2#32
  let v13 : BitVec 32 := Scalar.remsi arg0 c2_i32
  let c0_i32_1 : BitVec 32 := 0#32
  let v14 : BitVec 1 := Scalar.cmpi .eq v13 c0_i32_1
  let v15 : BitVec 32 := Scalar.extui v14
  let c0_i32_2 : BitVec 32 := 0#32
  let v16 : BitVec 1 := Scalar.cmpi .ne v15 c0_i32_2
  v16

def k0_off2 (i : grid0.Coords) : Fin 2 → Nat :=
  let arg0 : BitVec 32 := BitVec.ofNat 32 (i 0).val
  let c8_i32_64 : BitVec 32 := 8#32
  let v250 : BitVec 32 := Scalar.muli arg0 c8_i32_64
  let c0_i32_65 : BitVec 32 := 0#32
  ![v250.toNat, 0]
def k0_cond3 (i : grid0.Coords) : BitVec 1 :=
  let arg0 : BitVec 32 := BitVec.ofNat 32 (i 0).val
  let c2_i32 : BitVec 32 := 2#32
  let v13 : BitVec 32 := Scalar.remsi arg0 c2_i32
  let c1_i32 : BitVec 32 := 1#32
  let v17 : BitVec 1 := Scalar.cmpi .eq v13 c1_i32
  let v18 : BitVec 32 := Scalar.extui v17
  let c0_i32_3 : BitVec 32 := 0#32
  let v19 : BitVec 1 := Scalar.cmpi .ne v18 c0_i32_3
  v19

def k0_off3 (i : grid0.Coords) : Fin 2 → Nat :=
  let arg0 : BitVec 32 := BitVec.ofNat 32 (i 0).val
  let c8_i32_64 : BitVec 32 := 8#32
  let v250 : BitVec 32 := Scalar.muli arg0 c8_i32_64
  let c0_i32_65 : BitVec 32 := 0#32
  ![v250.toNat, 0]
def k0_cond4 (i : grid0.Coords) : BitVec 1 :=
  let arg0 : BitVec 32 := BitVec.ofNat 32 (i 0).val
  let c1_i32_4 : BitVec 32 := 1#32
  let v20 : BitVec 32 := Scalar.addi arg0 c1_i32_4
  let c80_i32 : BitVec 32 := 80#32
  let v21 : BitVec 1 := Scalar.cmpi .slt v20 c80_i32
  let c2_i32 : BitVec 32 := 2#32
  let v13 : BitVec 32 := Scalar.remsi arg0 c2_i32
  let c0_i32_5 : BitVec 32 := 0#32
  let v22 : BitVec 1 := Scalar.cmpi .eq v13 c0_i32_5
  let v23 : BitVec 1 := Scalar.andi v21 v22
  let v24 : BitVec 32 := Scalar.extui v23
  let c0_i32_6 : BitVec 32 := 0#32
  let v25 : BitVec 1 := Scalar.cmpi .ne v24 c0_i32_6
  v25

def k0_off4 (i : grid0.Coords) : Fin 2 → Nat :=
  let arg0 : BitVec 32 := BitVec.ofNat 32 (i 0).val
  let c1_i32_64 : BitVec 32 := 1#32
  let v250 : BitVec 32 := Scalar.addi arg0 c1_i32_64
  let c8_i32_65 : BitVec 32 := 8#32
  let v251 : BitVec 32 := Scalar.muli v250 c8_i32_65
  let c0_i32_66 : BitVec 32 := 0#32
  ![v251.toNat, 0]
def k0_cond5 (i : grid0.Coords) : BitVec 1 :=
  let arg0 : BitVec 32 := BitVec.ofNat 32 (i 0).val
  let c1_i32_7 : BitVec 32 := 1#32
  let v26 : BitVec 32 := Scalar.addi arg0 c1_i32_7
  let c80_i32_8 : BitVec 32 := 80#32
  let v27 : BitVec 1 := Scalar.cmpi .slt v26 c80_i32_8
  let c2_i32 : BitVec 32 := 2#32
  let v13 : BitVec 32 := Scalar.remsi arg0 c2_i32
  let c1_i32_9 : BitVec 32 := 1#32
  let v28 : BitVec 1 := Scalar.cmpi .eq v13 c1_i32_9
  let v29 : BitVec 1 := Scalar.andi v27 v28
  let v30 : BitVec 32 := Scalar.extui v29
  let c0_i32_10 : BitVec 32 := 0#32
  let v31 : BitVec 1 := Scalar.cmpi .ne v30 c0_i32_10
  v31

def k0_off5 (i : grid0.Coords) : Fin 2 → Nat :=
  let arg0 : BitVec 32 := BitVec.ofNat 32 (i 0).val
  let c1_i32_64 : BitVec 32 := 1#32
  let v250 : BitVec 32 := Scalar.addi arg0 c1_i32_64
  let c8_i32_65 : BitVec 32 := 8#32
  let v251 : BitVec 32 := Scalar.muli v250 c8_i32_65
  let c0_i32_66 : BitVec 32 := 0#32
  ![v251.toNat, 0]
def k0_cond6 (i : grid0.Coords) : BitVec 1 :=
  let arg0 : BitVec 32 := BitVec.ofNat 32 (i 0).val
  let c2_i32 : BitVec 32 := 2#32
  let v13 : BitVec 32 := Scalar.remsi arg0 c2_i32
  let c0_i32_12 : BitVec 32 := 0#32
  let v34 : BitVec 1 := Scalar.cmpi .eq v13 c0_i32_12
  let v35 : BitVec 32 := Scalar.extui v34
  let c0_i32_13 : BitVec 32 := 0#32
  let v36 : BitVec 1 := Scalar.cmpi .ne v35 c0_i32_13
  v36

@[reducible] def k0_t1_loop : Scf.Loop 32 :=
  let c0_i32_64 : BitVec 32 := 0#32
  let c48_i32 : BitVec 32 := 48#32
  let v250 : BitVec 32 := Scalar.addi c0_i32_64 c48_i32
  let c1_i32_65 : BitVec 32 := 1#32
  ⟨c0_i32_64, v250, c1_i32_65⟩
def k0_mult1 (k0_t1 : Fin k0_t1_loop.trips) : BitVec 32 :=
  let c0_i32_64 : BitVec 32 := 0#32
  let c1_i32_65 : BitVec 32 := 1#32
  let arg8 : BitVec 32 := Scf.iv c0_i32_64 c1_i32_65 k0_t1
  let c2_i32_125 : BitVec 32 := 2#32
  let v437 : BitVec 32 := Scalar.muli arg8 c2_i32_125
  let c0_i32_126 : BitVec 32 := 0#32
  let v438 : BitVec 32 := Scalar.addi v437 c0_i32_126
  let c1024_i32 : BitVec 32 := 1024#32
  let v439 : BitVec 32 := Scalar.muli v438 c1024_i32
  v439
def k0_off6 (k0_t1 : Fin k0_t1_loop.trips) (c0_i32_126 : BitVec 32) : Fin 2 → Nat :=
  let c0_127 : Index := 0#32
  let c0_i32_64 : BitVec 32 := 0#32
  let c1_i32_65 : BitVec 32 := 1#32
  let arg8 : BitVec 32 := Scf.iv c0_i32_64 c1_i32_65 k0_t1
  let c2_i32_125 : BitVec 32 := 2#32
  let v437 : BitVec 32 := Scalar.muli arg8 c2_i32_125
  let v438 : BitVec 32 := Scalar.addi v437 c0_i32_126
  let c1024_i32 : BitVec 32 := 1024#32
  let v439 : BitVec 32 := Scalar.muli v438 c1024_i32
  let v440 : BitVec 32 := v439
  let v441 : Index := Scalar.indexCast v440
  ![0, v441.toNat]
def k0_mult2 (k0_t1 : Fin k0_t1_loop.trips) : BitVec 32 :=
  let c0_i32_64 : BitVec 32 := 0#32
  let c1_i32_65 : BitVec 32 := 1#32
  let arg8 : BitVec 32 := Scf.iv c0_i32_64 c1_i32_65 k0_t1
  let c2_i32_185 : BitVec 32 := 2#32
  let v627 : BitVec 32 := Scalar.muli arg8 c2_i32_185
  let c1_i32_186 : BitVec 32 := 1#32
  let v628 : BitVec 32 := Scalar.addi v627 c1_i32_186
  let c1024_i32_187 : BitVec 32 := 1024#32
  let v629 : BitVec 32 := Scalar.muli v628 c1024_i32_187
  v629
@[reducible] def k0_t2_loop : Scf.Loop 32 :=
  let c0_i32_64 : BitVec 32 := 0#32
  let c48_i32 : BitVec 32 := 48#32
  let v250 : BitVec 32 := Scalar.addi c0_i32_64 c48_i32
  let c1_i32_65 : BitVec 32 := 1#32
  ⟨c0_i32_64, v250, c1_i32_65⟩
def k0_mult3 (k0_t2 : Fin k0_t2_loop.trips) : BitVec 32 :=
  let c0_i32_64 : BitVec 32 := 0#32
  let c1_i32_65 : BitVec 32 := 1#32
  let arg8 : BitVec 32 := Scf.iv c0_i32_64 c1_i32_65 k0_t2
  let c2_i32_125 : BitVec 32 := 2#32
  let v437 : BitVec 32 := Scalar.muli arg8 c2_i32_125
  let c0_i32_126 : BitVec 32 := 0#32
  let v438 : BitVec 32 := Scalar.addi v437 c0_i32_126
  let c1024_i32 : BitVec 32 := 1024#32
  let v439 : BitVec 32 := Scalar.muli v438 c1024_i32
  v439
def k0_off7 (k0_t2 : Fin k0_t2_loop.trips) (c0_i32_126 : BitVec 32) : Fin 2 → Nat :=
  let c0_127 : Index := 0#32
  let c0_i32_64 : BitVec 32 := 0#32
  let c1_i32_65 : BitVec 32 := 1#32
  let arg8 : BitVec 32 := Scf.iv c0_i32_64 c1_i32_65 k0_t2
  let c2_i32_125 : BitVec 32 := 2#32
  let v437 : BitVec 32 := Scalar.muli arg8 c2_i32_125
  let v438 : BitVec 32 := Scalar.addi v437 c0_i32_126
  let c1024_i32 : BitVec 32 := 1024#32
  let v439 : BitVec 32 := Scalar.muli v438 c1024_i32
  let v440 : BitVec 32 := v439
  let v441 : Index := Scalar.indexCast v440
  ![0, v441.toNat]
def k0_mult4 (k0_t2 : Fin k0_t2_loop.trips) : BitVec 32 :=
  let c0_i32_64 : BitVec 32 := 0#32
  let c1_i32_65 : BitVec 32 := 1#32
  let arg8 : BitVec 32 := Scf.iv c0_i32_64 c1_i32_65 k0_t2
  let c2_i32_185 : BitVec 32 := 2#32
  let v627 : BitVec 32 := Scalar.muli arg8 c2_i32_185
  let c1_i32_186 : BitVec 32 := 1#32
  let v628 : BitVec 32 := Scalar.addi v627 c1_i32_186
  let c1024_i32_187 : BitVec 32 := 1024#32
  let v629 : BitVec 32 := Scalar.muli v628 c1024_i32_187
  v629
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x10x100000 : Shape := ⟨3, ![64, 10, 100000]⟩
abbrev S_ : Shape := ⟨0, ![]⟩
abbrev S64x10 : Shape := ⟨2, ![64, 10]⟩
abbrev S64x10x1 : Shape := ⟨3, ![64, 10, 1]⟩

abbrev nBuf : Space → Nat
  | .hbm => 276
  | .vmem => 0
  | .smem => 0
  | _ => 0

abbrev hbmTy0_0 (i : Nat) : BufTy := match i % 128 with
  | 0 => ⟨S64x10x100000, .f32⟩
  | 1 => ⟨S_, .f32⟩
  | 2 => ⟨S64x10x100000, .f32⟩
  | 3 => ⟨S64x10x100000, .f32⟩
  | 4 => ⟨S64x10x100000, .f32⟩
  | 5 => ⟨S64x10x100000, .i32⟩
  | 6 => ⟨S64x10x100000, .i32⟩
  | 7 => ⟨S64x10x100000, .i32⟩
  | 8 => ⟨S_, .i32⟩
  | 9 => ⟨S64x10x100000, .i32⟩
  | 10 => ⟨S64x10x100000, .i32⟩
  | 11 => ⟨S_, .i32⟩
  | 12 => ⟨S64x10x100000, .i32⟩
  | 13 => ⟨S64x10x100000, .i32⟩
  | 14 => ⟨S64x10x100000, .i32⟩
  | 15 => ⟨S64x10x100000, .i32⟩
  | 16 => ⟨S_, .i32⟩
  | 17 => ⟨S64x10x100000, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S64x10x100000, .i32⟩
  | 25 => ⟨S64x10x100000, .i32⟩
  | 26 => ⟨S_, .i32⟩
  | 27 => ⟨S64x10x100000, .i32⟩
  | 28 => ⟨S64x10x100000, .i32⟩
  | 29 => ⟨S64x10x100000, .i32⟩
  | 30 => ⟨S_, .i32⟩
  | 31 => ⟨S64x10x100000, .i32⟩
  | 32 => ⟨S64x10x100000, .i32⟩
  | 33 => ⟨S_, .i32⟩
  | 34 => ⟨S64x10x100000, .i32⟩
  | 35 => ⟨S64x10x100000, .i32⟩
  | 36 => ⟨S64x10x100000, .i32⟩
  | 37 => ⟨S64x10x100000, .i32⟩
  | 38 => ⟨S64x10x100000, .i32⟩
  | 39 => ⟨S_, .i32⟩
  | 40 => ⟨S64x10x100000, .i32⟩
  | 41 => ⟨S64x10x100000, .i32⟩
  | 42 => ⟨S_, .i32⟩
  | 43 => ⟨S64x10x100000, .i32⟩
  | 44 => ⟨S64x10x100000, .i32⟩
  | 45 => ⟨S64x10x100000, .i32⟩
  | 46 => ⟨S64x10x100000, .i32⟩
  | 47 => ⟨S64x10x100000, .i32⟩
  | 48 => ⟨S_, .i32⟩
  | 49 => ⟨S64x10x100000, .i32⟩
  | 50 => ⟨S64x10x100000, .i32⟩
  | 51 => ⟨S_, .i32⟩
  | 52 => ⟨S64x10x100000, .i32⟩
  | 53 => ⟨S64x10x100000, .i32⟩
  | 54 => ⟨S64x10x100000, .i32⟩
  | 55 => ⟨S64x10x100000, .i32⟩
  | 56 => ⟨S64x10x100000, .i32⟩
  | 57 => ⟨S_, .i32⟩
  | 58 => ⟨S64x10x100000, .i32⟩
  | 59 => ⟨S64x10x100000, .i32⟩
  | 60 => ⟨S_, .i32⟩
  | 61 => ⟨S64x10x100000, .i32⟩
  | 62 => ⟨S64x10x100000, .i32⟩
  | 63 => ⟨S64x10x100000, .i32⟩
  | 64 => ⟨S64x10x100000, .i32⟩
  | 65 => ⟨S_, .i32⟩
  | 66 => ⟨S64x10x100000, .i32⟩
  | 67 => ⟨S64x10x100000, .i32⟩
  | 68 => ⟨S_, .i32⟩
  | 69 => ⟨S_, .i32⟩
  | 70 => ⟨S64x10x100000, .i32⟩
  | 71 => ⟨S64x10x100000, .i32⟩
  | 72 => ⟨S64x10x100000, .i32⟩
  | 73 => ⟨S_, .i32⟩
  | 74 => ⟨S64x10x100000, .i32⟩
  | 75 => ⟨S64x10x100000, .i32⟩
  | 76 => ⟨S_, .i32⟩
  | 77 => ⟨S64x10x100000, .i32⟩
  | 78 => ⟨S64x10x100000, .i32⟩
  | 79 => ⟨S64x10x100000, .i32⟩
  | 80 => ⟨S64x10x100000, .i32⟩
  | 81 => ⟨S64x10x100000, .i32⟩
  | 82 => ⟨S_, .i32⟩
  | 83 => ⟨S64x10x100000, .i32⟩
  | 84 => ⟨S64x10x100000, .i32⟩
  | 85 => ⟨S_, .i32⟩
  | 86 => ⟨S64x10x100000, .i32⟩
  | 87 => ⟨S64x10x100000, .i32⟩
  | 88 => ⟨S64x10x100000, .i32⟩
  | 89 => ⟨S64x10x100000, .i32⟩
  | 90 => ⟨S64x10x100000, .i32⟩
  | 91 => ⟨S_, .i32⟩
  | 92 => ⟨S64x10x100000, .i32⟩
  | 93 => ⟨S64x10x100000, .i32⟩
  | 94 => ⟨S_, .i32⟩
  | 95 => ⟨S64x10x100000, .i32⟩
  | 96 => ⟨S64x10x100000, .i32⟩
  | 97 => ⟨S64x10x100000, .i32⟩
  | 98 => ⟨S64x10x100000, .i32⟩
  | 99 => ⟨S64x10x100000, .i32⟩
  | 100 => ⟨S_, .i32⟩
  | 101 => ⟨S64x10x100000, .i32⟩
  | 102 => ⟨S64x10x100000, .i32⟩
  | 103 => ⟨S_, .i32⟩
  | 104 => ⟨S64x10x100000, .i32⟩
  | 105 => ⟨S64x10x100000, .i32⟩
  | 106 => ⟨S64x10x100000, .i32⟩
  | 107 => ⟨S64x10x100000, .i32⟩
  | 108 => ⟨S64x10x100000, .i32⟩
  | 109 => ⟨S64x10x100000, .i32⟩
  | 110 => ⟨S_, .i32⟩
  | 111 => ⟨S_, .i32⟩
  | 112 => ⟨S_, .i32⟩
  | 113 => ⟨S64x10x100000, .i32⟩
  | 114 => ⟨S64x10x100000, .i32⟩
  | 115 => ⟨S64x10x100000, .i32⟩
  | 116 => ⟨S_, .i32⟩
  | 117 => ⟨S64x10x100000, .i32⟩
  | 118 => ⟨S64x10x100000, .i32⟩
  | 119 => ⟨S_, .i32⟩
  | 120 => ⟨S64x10x100000, .i32⟩
  | 121 => ⟨S64x10x100000, .i32⟩
  | 122 => ⟨S64x10x100000, .i32⟩
  | 123 => ⟨S64x10x100000, .i32⟩
  | 124 => ⟨S64x10x100000, .i32⟩
  | 125 => ⟨S_, .i32⟩
  | 126 => ⟨S64x10x100000, .i32⟩
  | 127 => ⟨S64x10x100000, .i32⟩
  | _ => ⟨S64x10x100000, .f32⟩

abbrev hbmTy0_1 (i : Nat) : BufTy := match i % 128 with
  | 0 => ⟨S_, .i32⟩
  | 1 => ⟨S64x10x100000, .i32⟩
  | 2 => ⟨S64x10x100000, .i32⟩
  | 3 => ⟨S64x10x100000, .i32⟩
  | 4 => ⟨S64x10x100000, .i32⟩
  | 5 => ⟨S64x10x100000, .i32⟩
  | 6 => ⟨S_, .i32⟩
  | 7 => ⟨S64x10x100000, .i32⟩
  | 8 => ⟨S64x10x100000, .i32⟩
  | 9 => ⟨S_, .i32⟩
  | 10 => ⟨S64x10x100000, .i32⟩
  | 11 => ⟨S64x10x100000, .i32⟩
  | 12 => ⟨S64x10x100000, .i32⟩
  | 13 => ⟨S64x10x100000, .i32⟩
  | 14 => ⟨S64x10x100000, .i32⟩
  | 15 => ⟨S_, .i32⟩
  | 16 => ⟨S64x10x100000, .i32⟩
  | 17 => ⟨S64x10x100000, .i32⟩
  | 18 => ⟨S_, .i32⟩
  | 19 => ⟨S64x10x100000, .i32⟩
  | 20 => ⟨S64x10x100000, .i32⟩
  | 21 => ⟨S64x10x100000, .i32⟩
  | 22 => ⟨S64x10x100000, .i32⟩
  | 23 => ⟨S_, .i32⟩
  | 24 => ⟨S64x10x100000, .i32⟩
  | 25 => ⟨S64x10x100000, .i32⟩
  | 26 => ⟨S_, .i32⟩
  | 27 => ⟨S_, .i32⟩
  | 28 => ⟨S_, .i32⟩
  | 29 => ⟨S64x10x100000, .i32⟩
  | 30 => ⟨S64x10x100000, .i32⟩
  | 31 => ⟨S64x10x100000, .i32⟩
  | 32 => ⟨S_, .i32⟩
  | 33 => ⟨S64x10x100000, .i32⟩
  | 34 => ⟨S64x10x100000, .i32⟩
  | 35 => ⟨S_, .i32⟩
  | 36 => ⟨S64x10x100000, .i32⟩
  | 37 => ⟨S64x10x100000, .i32⟩
  | 38 => ⟨S64x10x100000, .i32⟩
  | 39 => ⟨S64x10x100000, .i32⟩
  | 40 => ⟨S64x10x100000, .i32⟩
  | 41 => ⟨S_, .i32⟩
  | 42 => ⟨S64x10x100000, .i32⟩
  | 43 => ⟨S64x10x100000, .i32⟩
  | 44 => ⟨S_, .i32⟩
  | 45 => ⟨S64x10x100000, .i32⟩
  | 46 => ⟨S64x10x100000, .i32⟩
  | 47 => ⟨S64x10x100000, .i32⟩
  | 48 => ⟨S64x10x100000, .i32⟩
  | 49 => ⟨S64x10x100000, .i32⟩
  | 50 => ⟨S_, .i32⟩
  | 51 => ⟨S64x10x100000, .i32⟩
  | 52 => ⟨S64x10x100000, .i32⟩
  | 53 => ⟨S_, .i32⟩
  | 54 => ⟨S64x10x100000, .i32⟩
  | 55 => ⟨S64x10x100000, .i32⟩
  | 56 => ⟨S64x10x100000, .i32⟩
  | 57 => ⟨S64x10x100000, .i32⟩
  | 58 => ⟨S64x10x100000, .i32⟩
  | 59 => ⟨S_, .i32⟩
  | 60 => ⟨S64x10x100000, .i32⟩
  | 61 => ⟨S64x10x100000, .i32⟩
  | 62 => ⟨S_, .i32⟩
  | 63 => ⟨S64x10x100000, .i32⟩
  | 64 => ⟨S64x10x100000, .i32⟩
  | 65 => ⟨S64x10x100000, .i32⟩
  | 66 => ⟨S64x10x100000, .i32⟩
  | 67 => ⟨S_, .i32⟩
  | 68 => ⟨S64x10x100000, .i32⟩
  | 69 => ⟨S64x10x100000, .i32⟩
  | 70 => ⟨S_, .i32⟩
  | 71 => ⟨S_, .i32⟩
  | 72 => ⟨S64x10x100000, .i32⟩
  | 73 => ⟨S64x10x100000, .i32⟩
  | 74 => ⟨S64x10x100000, .i32⟩
  | 75 => ⟨S_, .i32⟩
  | 76 => ⟨S64x10x100000, .i32⟩
  | 77 => ⟨S64x10x100000, .i32⟩
  | 78 => ⟨S_, .i32⟩
  | 79 => ⟨S64x10x100000, .i32⟩
  | 80 => ⟨S64x10x100000, .i32⟩
  | 81 => ⟨S64x10x100000, .i32⟩
  | 82 => ⟨S64x10x100000, .i32⟩
  | 83 => ⟨S64x10x100000, .i32⟩
  | 84 => ⟨S_, .i32⟩
  | 85 => ⟨S64x10x100000, .i32⟩
  | 86 => ⟨S64x10x100000, .i32⟩
  | 87 => ⟨S_, .i32⟩
  | 88 => ⟨S64x10x100000, .i32⟩
  | 89 => ⟨S64x10x100000, .i32⟩
  | 90 => ⟨S64x10x100000, .i32⟩
  | 91 => ⟨S64x10x100000, .i32⟩
  | 92 => ⟨S64x10x100000, .i32⟩
  | 93 => ⟨S_, .i32⟩
  | 94 => ⟨S64x10x100000, .i32⟩
  | 95 => ⟨S64x10x100000, .i32⟩
  | 96 => ⟨S_, .i32⟩
  | 97 => ⟨S64x10x100000, .i32⟩
  | 98 => ⟨S64x10x100000, .i32⟩
  | 99 => ⟨S64x10x100000, .i32⟩
  | 100 => ⟨S64x10x100000, .i32⟩
  | 101 => ⟨S64x10x100000, .i32⟩
  | 102 => ⟨S_, .i32⟩
  | 103 => ⟨S64x10x100000, .i32⟩
  | 104 => ⟨S64x10x100000, .i32⟩
  | 105 => ⟨S_, .i32⟩
  | 106 => ⟨S64x10x100000, .i32⟩
  | 107 => ⟨S64x10x100000, .i32⟩
  | 108 => ⟨S64x10x100000, .i32⟩
  | 109 => ⟨S64x10x100000, .i32⟩
  | 110 => ⟨S64x10x100000, .i32⟩
  | 111 => ⟨S64x10x100000, .i32⟩
  | 112 => ⟨S_, .i32⟩
  | 113 => ⟨S_, .i32⟩
  | 114 => ⟨S_, .i32⟩
  | 115 => ⟨S64x10x100000, .i32⟩
  | 116 => ⟨S64x10x100000, .i32⟩
  | 117 => ⟨S64x10x100000, .i32⟩
  | 118 => ⟨S_, .i32⟩
  | 119 => ⟨S64x10x100000, .i32⟩
  | 120 => ⟨S64x10x100000, .i32⟩
  | 121 => ⟨S_, .i32⟩
  | 122 => ⟨S64x10x100000, .i32⟩
  | 123 => ⟨S64x10x100000, .i32⟩
  | 124 => ⟨S64x10x100000, .f32⟩
  | 125 => ⟨S_, .f32⟩
  | 126 => ⟨S64x10x100000, .f32⟩
  | 127 => ⟨S64x10x100000, .f32⟩
  | _ => ⟨S64x10x100000, .f32⟩

abbrev hbmTy0_2 (i : Nat) : BufTy := match i % 128 with
  | 0 => ⟨S_, .f32⟩
  | 1 => ⟨S64x10x100000, .f32⟩
  | 2 => ⟨S64x10x100000, .f32⟩
  | 3 => ⟨S64x10x100000, .f32⟩
  | 4 => ⟨S64x10x100000, .f32⟩
  | 5 => ⟨S64x10x100000, .f32⟩
  | 6 => ⟨S64x10x100000, .f32⟩
  | 7 => ⟨S64x10x100000, .f32⟩
  | 8 => ⟨S_, .f32⟩
  | 9 => ⟨S64x10, .f32⟩
  | 10 => ⟨S64x10x1, .f32⟩
  | 11 => ⟨S64x10x100000, .i32⟩
  | 12 => ⟨S64x10x100000, .f32⟩
  | 13 => ⟨S64x10x100000, .i1⟩
  | 14 => ⟨S_, .i32⟩
  | 15 => ⟨S_, .i32⟩
  | 16 => ⟨S64x10x100000, .i32⟩
  | 17 => ⟨S64x10x100000, .i32⟩
  | 18 => ⟨S_, .i32⟩
  | 19 => ⟨S64x10, .i32⟩
  | _ => ⟨S64x10x100000, .f32⟩

abbrev hbmTy (i : Nat) : BufTy := match i / 128 with
  | 0 => hbmTy0_0 i
  | 1 => hbmTy0_1 i
  | 2 => hbmTy0_2 i
  | _ => ⟨S64x10x100000, .f32⟩

abbrev bufTy : (tb : Table) → Fin (tcTables nBuf tb) → BufTy
  | .hbm, ⟨i, _⟩ => hbmTy i
  | _, _ => ⟨S64x10x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_c_2 : Ref sig .tc := ⟨.hbm, 18, rfl⟩
abbrev main_c_3 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_c_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_7 : Ref sig .tc := ⟨.hbm, 30, rfl⟩
abbrev main_v20 : Ref sig .tc := ⟨.hbm, 31, rfl⟩
abbrev main_v21 : Ref sig .tc := ⟨.hbm, 32, rfl⟩
abbrev main_c_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_9 : Ref sig .tc := ⟨.hbm, 39, rfl⟩
abbrev main_v27 : Ref sig .tc := ⟨.hbm, 40, rfl⟩
abbrev main_v28 : Ref sig .tc := ⟨.hbm, 41, rfl⟩
abbrev main_c_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_11 : Ref sig .tc := ⟨.hbm, 48, rfl⟩
abbrev main_v34 : Ref sig .tc := ⟨.hbm, 49, rfl⟩
abbrev main_v35 : Ref sig .tc := ⟨.hbm, 50, rfl⟩
abbrev main_c_12 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_v42 : Ref sig .tc := ⟨.hbm, 59, rfl⟩
abbrev main_c_14 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_15 : Ref sig .tc := ⟨.hbm, 65, rfl⟩
abbrev main_v47 : Ref sig .tc := ⟨.hbm, 66, rfl⟩
abbrev main_v48 : Ref sig .tc := ⟨.hbm, 67, rfl⟩
abbrev main_c_16 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_17 : Ref sig .tc := ⟨.hbm, 73, rfl⟩
abbrev main_v53 : Ref sig .tc := ⟨.hbm, 74, rfl⟩
abbrev main_v54 : Ref sig .tc := ⟨.hbm, 75, rfl⟩
abbrev main_c_18 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_19 : Ref sig .tc := ⟨.hbm, 82, rfl⟩
abbrev main_v60 : Ref sig .tc := ⟨.hbm, 83, rfl⟩
abbrev main_v61 : Ref sig .tc := ⟨.hbm, 84, rfl⟩
abbrev main_c_20 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_21 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_c_24 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_25 : Ref sig .tc := ⟨.hbm, 110, rfl⟩
abbrev main_c_26 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_27 : Ref sig .tc := ⟨.hbm, 116, rfl⟩
abbrev main_v86 : Ref sig .tc := ⟨.hbm, 117, rfl⟩
abbrev main_v87 : Ref sig .tc := ⟨.hbm, 118, rfl⟩
abbrev main_c_28 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_29 : Ref sig .tc := ⟨.hbm, 125, rfl⟩
abbrev main_v93 : Ref sig .tc := ⟨.hbm, 126, rfl⟩
abbrev main_v94 : Ref sig .tc := ⟨.hbm, 127, rfl⟩
abbrev main_c_30 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_31 : Ref sig .tc := ⟨.hbm, 134, rfl⟩
abbrev main_v100 : Ref sig .tc := ⟨.hbm, 135, rfl⟩
abbrev main_v101 : Ref sig .tc := ⟨.hbm, 136, rfl⟩
abbrev main_c_32 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_33 : Ref sig .tc := ⟨.hbm, 143, rfl⟩
abbrev main_v107 : Ref sig .tc := ⟨.hbm, 144, rfl⟩
abbrev main_v108 : Ref sig .tc := ⟨.hbm, 145, rfl⟩
abbrev main_c_34 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_35 : Ref sig .tc := ⟨.hbm, 151, rfl⟩
abbrev main_v113 : Ref sig .tc := ⟨.hbm, 152, rfl⟩
abbrev main_v114 : Ref sig .tc := ⟨.hbm, 153, rfl⟩
abbrev main_c_36 : Ref sig .tc := ⟨.hbm, 154, rfl⟩
abbrev main_c_37 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_38 : Ref sig .tc := ⟨.hbm, 160, rfl⟩
abbrev main_v119 : Ref sig .tc := ⟨.hbm, 161, rfl⟩
abbrev main_v120 : Ref sig .tc := ⟨.hbm, 162, rfl⟩
abbrev main_c_39 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_40 : Ref sig .tc := ⟨.hbm, 169, rfl⟩
abbrev main_v126 : Ref sig .tc := ⟨.hbm, 170, rfl⟩
abbrev main_v127 : Ref sig .tc := ⟨.hbm, 171, rfl⟩
abbrev main_c_41 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_42 : Ref sig .tc := ⟨.hbm, 178, rfl⟩
abbrev main_v133 : Ref sig .tc := ⟨.hbm, 179, rfl⟩
abbrev main_v134 : Ref sig .tc := ⟨.hbm, 180, rfl⟩
abbrev main_c_43 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_c_44 : Ref sig .tc := ⟨.hbm, 187, rfl⟩
abbrev main_v140 : Ref sig .tc := ⟨.hbm, 188, rfl⟩
abbrev main_v141 : Ref sig .tc := ⟨.hbm, 189, rfl⟩
abbrev main_c_45 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_46 : Ref sig .tc := ⟨.hbm, 195, rfl⟩
abbrev main_v146 : Ref sig .tc := ⟨.hbm, 196, rfl⟩
abbrev main_v147 : Ref sig .tc := ⟨.hbm, 197, rfl⟩
abbrev main_c_47 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_48 : Ref sig .tc := ⟨.hbm, 203, rfl⟩
abbrev main_v152 : Ref sig .tc := ⟨.hbm, 204, rfl⟩
abbrev main_v153 : Ref sig .tc := ⟨.hbm, 205, rfl⟩
abbrev main_c_49 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_c_50 : Ref sig .tc := ⟨.hbm, 212, rfl⟩
abbrev main_v159 : Ref sig .tc := ⟨.hbm, 213, rfl⟩
abbrev main_v160 : Ref sig .tc := ⟨.hbm, 214, rfl⟩
abbrev main_c_51 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_c_52 : Ref sig .tc := ⟨.hbm, 221, rfl⟩
abbrev main_v166 : Ref sig .tc := ⟨.hbm, 222, rfl⟩
abbrev main_v167 : Ref sig .tc := ⟨.hbm, 223, rfl⟩
abbrev main_c_53 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_c_54 : Ref sig .tc := ⟨.hbm, 230, rfl⟩
abbrev main_v173 : Ref sig .tc := ⟨.hbm, 231, rfl⟩
abbrev main_v174 : Ref sig .tc := ⟨.hbm, 232, rfl⟩
abbrev main_c_55 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_c_56 : Ref sig .tc := ⟨.hbm, 240, rfl⟩
abbrev main_c_57 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_c_58 : Ref sig .tc := ⟨.hbm, 246, rfl⟩
abbrev main_v185 : Ref sig .tc := ⟨.hbm, 247, rfl⟩
abbrev main_v186 : Ref sig .tc := ⟨.hbm, 248, rfl⟩
abbrev main_c_59 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_60 : Ref sig .tc := ⟨.hbm, 253, rfl⟩
abbrev main_v190 : Ref sig .tc := ⟨.hbm, 254, rfl⟩
abbrev main_v191 : Ref sig .tc := ⟨.hbm, 255, rfl⟩
abbrev main_cst_61 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_62 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_c_63 : Ref sig .tc := ⟨.hbm, 270, rfl⟩
abbrev main_call0_v0 : Ref sig .tc := ⟨.hbm, 271, rfl⟩
abbrev main_call0_v1 : Ref sig .tc := ⟨.hbm, 272, rfl⟩
abbrev main_v204 : Ref sig .tc := ⟨.hbm, 273, rfl⟩
abbrev main_c_64 : Ref sig .tc := ⟨.hbm, 274, rfl⟩
abbrev main_v205 : Ref sig .tc := ⟨.hbm, 275, rfl⟩

abbrev nD : Nat := 1
abbrev τ : Topo := Topo.v7x

variable {F : FTy → Type} [FloatOps F]
-- ==== Proof.Chunk.lean ====
/-
  What the kernel computes for one chunk of 8 × 1024 weights, stated for one element: the twenty rounds of the
  counter-based generator on one word, the score of one weight, and the step that takes the running maximum and the
  word of the element that attained it past one more chunk.
-/
module

public import proofs.«01_k».proof.Proof.Gen.KernelIdeal.Skeleton
public import Idealize.ShloMosaic.Lib.ValueIdxCore

@[expose] public section

noncomputable section

namespace Cert.KernelIdeal.Hand

open Cert.KernelIdeal Cert.KernelIdeal.Gen
open Idealize.ShloMosaic Idealize.ShloMosaic.ValueIdx

variable {F : FTy → Type} [FloatOps F]

/-! ## The generator's bits of one word -/

/-- A word rotated left by `r`, where `s = 32 - r`. -/
def rot (r s x : BitVec 32) : BitVec 32 := IntOp.ori (IntOp.shli .vector x r) (IntOp.shrui .vector x s)

/-- One round: add, then rotate the second word and mix it in. -/
def mix (r s : BitVec 32) (p : BitVec 32 × BitVec 32) : BitVec 32 × BitVec 32 :=
  (IntOp.addi p.1 p.2, IntOp.xori (IntOp.addi p.1 p.2) (rot r s p.2))

/-- The key schedule's words added to the two words. -/
def inject (a b : BitVec 32) (p : BitVec 32 × BitVec 32) : BitVec 32 × BitVec 32 := (IntOp.addi p.1 a, IntOp.addi p.2 b)

/-- The four rounds with the first set of rotations, less the first round. -/
def roundsA' (p : BitVec 32 × BitVec 32) : BitVec 32 × BitVec 32 := mix 6#32 26#32 (mix 26#32 6#32 (mix 15#32 17#32 p))
/-- The four rounds with the first set of rotations. -/
def roundsA (p : BitVec 32 × BitVec 32) : BitVec 32 × BitVec 32 := roundsA' (mix 13#32 19#32 p)
/-- The four rounds with the second set of rotations. -/
def roundsB (p : BitVec 32 × BitVec 32) : BitVec 32 × BitVec 32 :=
  mix 24#32 8#32 (mix 16#32 16#32 (mix 29#32 3#32 (mix 17#32 15#32 p)))

/-- The five groups of rounds after the first addition, each followed by its key words. -/
def groups (p : BitVec 32 × BitVec 32) : BitVec 32 × BitVec 32 :=
  inject 466689008#32 5#32 (roundsA (inject 42#32 466689012#32 (roundsB (inject 0#32 45#32 (roundsA
    (inject 466689008#32 2#32 (roundsB (inject 42#32 466689009#32 (roundsA' p)))))))))

/-- The random bits of the element whose word is `t` (its index plus the key's low word): the first word is zero, so the
    first addition of the first round is `t` itself. -/
def bits (t : BitVec 32) : BitVec 32 :=
  IntOp.xori (groups (t, IntOp.xori t (rot 13#32 19#32 t))).1 (groups (t, IntOp.xori t (rot 13#32 19#32 t))).2

/-! ## The score of one weight -/

/-- The uniform draw from the bits, kept off zero. -/
def draw (b : BitVec 32) : F .f32 :=
  FloatOps.maximumf (FloatOps.subf (FloatOps.ofBits .f32 (IntOp.ori (IntOp.shrui .vector b 9#32) 1065353216#32))
    (Scalar.ofBits .f32 0x3F800000#32)) (Scalar.ofBits .f32 0x00800000#32)

/-- The score of a weight `w` at word `t`: the logarithm of the weight plus the Gumbel draw of the word. -/
def score (w : F .f32) (t : BitVec 32) : F .f32 :=
  FloatOps.addf (FloatOps.log (FloatOps.addf w (Scalar.ofBits .f32 0x1E3CE508#32)))
    (FloatOps.subf (Scalar.ofBits .f32 0x00000000#32)
      (FloatOps.log (FloatOps.subf (Scalar.ofBits .f32 0x00000000#32) (FloatOps.log (draw (bits t))))))

/-! ## One chunk -/

/-- The running maximum and the word that attained it, taken past one more score. -/
def push (s : F .f32) (t : BitVec 32) (a : F .f32 × BitVec 32) : F .f32 × BitVec 32 :=
  (FloatOps.maximumf a.1 s, Scalar.select (FloatOps.cmpf .ogt s a.1) t a.2)

/-- The chunk step on the two registers: lane by lane, the weight `w` at the word `v9 + start`. -/
def chunk (v9 : IVec S8x1024 32) (start : BitVec 32) (w : FVec F S8x1024 .f32)
    (acc : FVec F S8x1024 .f32 × IVec S8x1024 32) : FVec F S8x1024 .f32 × IVec S8x1024 32 :=
  (fun i => (push (score (w i) (IntOp.addi (v9 i) start)) (IntOp.addi (v9 i) start) (acc.1 i, acc.2 i)).1,
   fun i => (push (score (w i) (IntOp.addi (v9 i) start)) (IntOp.addi (v9 i) start) (acc.1 i, acc.2 i)).2)

/-! ## The chunks of a slot, in order -/

/-- The chunk of a slot's contents that starts at column `n`. -/
def cols (X : FVec F S8x100000 .f32) (n : ℕ) : FVec F S8x1024 .f32 :=
  fun i => X (ix2 (i 0) ⟨(n + (i 1).val) % 100000, Nat.mod_lt _ (by decide)⟩)

/-- The registers after the first `n` chunks of a slot. -/
def runs (v9 : IVec S8x1024 32) (X : FVec F S8x100000 .f32) (init : FVec F S8x1024 .f32 × IVec S8x1024 32) :
    ℕ → FVec F S8x1024 .f32 × IVec S8x1024 32
  | 0 => init
  | n + 1 => chunk v9 (BitVec.ofNat 32 (1024 * n)) (cols X (1024 * n)) (runs v9 X init n)

/-! ## The last columns and the block's result -/

/-- The last chunk's scores: the padding columns, from 672 on, score `-inf`. -/
def lastScore (v9 : IVec S8x1024 32) (w : FVec F S8x1024 .f32) (i : S8x1024.Idx) : F .f32 :=
  Scalar.select (IntOp.cmpi .slt (iota .tc S8x1024 32 [1] iota_S8x1024_d1_w32 i) 672#32)
    (score (w i) (IntOp.addi (v9 i) 99328#32)) (Scalar.ofBits .f32 0xFF800000#32)

/-- The step past the last chunk. -/
def lastChunk (v9 : IVec S8x1024 32) (w : FVec F S8x1024 .f32) (acc : FVec F S8x1024 .f32 × IVec S8x1024 32) :
    FVec F S8x1024 .f32 × IVec S8x1024 32 :=
  (fun i => (push (lastScore v9 w i) (IntOp.addi (v9 i) 99328#32) (acc.1 i, acc.2 i)).1,
   fun i => (push (lastScore v9 w i) (IntOp.addi (v9 i) 99328#32) (acc.1 i, acc.2 i)).2)

/-- Each row's maximum over the lanes. -/
def rowMax (m : FVec F S8x1024 .f32) : FVec F S8 .f32 :=
  multiReduction .maximumf [1] S8 m 0xFF800000#32 reduces_S8x1024_S8 (.inl rfl) rfl

/-- Each row's least word over the lanes that attain the row's maximum. -/
def rowWord (a : FVec F S8x1024 .f32 × IVec S8x1024 32) : IVec S8 32 :=
  multiReductionI .minsi [1] S8
    (select (cmpf .oeq a.1 (broadcastTo S8x1024 (shapeCast S8x1 (rowMax a.1) shapeCasts_S8_S8x1) broadcasts_S8x1_S8x1024)) a.2
      (broadcast S8x1024 2147483647#32)) 2147483647#32 reduces_S8x1024_S8 rfl

/-- The word of each row's first column. -/
def rowBase (arg0 : BitVec 32) : IVec S8x1 32 :=
  addi (muli (addi (iota .tc S8x1 32 [0] iota_S8x1_d0_w32) (broadcast S8x1 (Scalar.muli arg0 8#32))) (broadcast S8x1 100000#32))
    (broadcast S8x1 42#32)

/-- The block of results: each row's word less the word of its first column. -/
def pick (arg0 : BitVec 32) (a : FVec F S8x1024 .f32 × IVec S8x1024 32) : IVec S1x1x8 32 :=
  shapeCast S1x1x8 (shapeCast S8 (subi (shapeCast S8x1 (rowWord a) shapeCasts_S8_S8x1) (rowBase arg0)) shapeCasts_S8x1_S8)
    shapeCasts_S8_S1x1x8

/-- What a grid point stores: the block of results of the 8 × 100000 weights `X` and the last columns `w`, from registers at
    `-inf` and the zero word. -/
def outBlock (i : grid0.Coords) (X : FVec F S8x100000 .f32) (w : FVec F S8x1024 .f32) : IVec S1x1x8 32 :=
  pick (BitVec.ofNat 32 (i 0).val) (lastChunk (k0_pay236 i) w (chunk (k0_pay236 i) 98304#32 (cols X 98304)
    (runs (k0_pay236 i) X (k0_pay237, k0_pay238) (2 * k0_t1_loop.trips))))

end Cert.KernelIdeal.Hand
-- ==== Proof.Trips.lean ====
/-
  The kernel's two counted loops, one per slot of the double buffer: a trip reads two chunks of its slot and takes the
  running maximum past both, so after `k` trips the carried registers are the chunk steps of the first `2 k` chunks.
-/
module

public import proofs.«01_k».proof.Proof.Chunk
public import proofs.«01_k».proof.Proof.Gen.KernelIdeal.Loops
public import Idealize.ShloMosaic.Lib.Pipeline.FrameBody
public import Idealize.ShloMosaic.Lib.ValueIdxCore
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A load of 1024 columns of the first slot reads the chunk that starts there. -/
theorem read_cols0 (X : BufTy.Contents (Elt F) (Memref.whole cc0_scratch0).view.ty) {off : Fin 2 → ℕ} (inb) {n : ℕ}
    (hoff : off = ![0, n]) :
    View.readAt (Elt F) (Memref.whole cc0_scratch0).view (Rect.unit (s := S8x100000) off S8x1024.size inb).toLoadRect X = cols (F := F) X n := by
  subst hoff
  have hn : n + 1024 ≤ 100000 := inb 1
  funext j
  have hj : (j 1).val < 1024 := (j 1).isLt
  refine congrArg X (funext fun a => ?_)
  match a with
  | ⟨0, _⟩ => exact Fin.ext (show 0 + 1 * (j 0).val = (j 0).val by omega)
  | ⟨1, _⟩ => exact Fin.ext (show n + 1 * (j 1).val = (n + (j 1).val) % 100000 by omega)

/-- A load of 1024 columns of the second slot reads the chunk that starts there. -/
theorem read_cols1 (X : BufTy.Contents (Elt F) (Memref.whole cc0_scratch1).view.ty) {off : Fin 2 → ℕ} (inb) {n : ℕ}
    (hoff : off = ![0, n]) :
    View.readAt (Elt F) (Memref.whole cc0_scratch1).view (Rect.unit (s := S8x100000) off S8x1024.size inb).toLoadRect X = cols (F := F) X n :=
  read_cols0 X inb hoff

/-- The word a trip adds to its first chunk's words: the chunk's first column. -/
theorem start_even : ∀ k : Fin k0_t1_loop.trips,
    Scalar.muli (Scalar.addi (Scalar.muli (Scf.iv 0#32 1#32 k) 2#32) 0#32) 1024#32 = BitVec.ofNat 32 (1024 * (2 * k.val)) := by
  decide +kernel
/-- The word a trip adds to its second chunk's words. -/
theorem start_odd : ∀ k : Fin k0_t1_loop.trips,
    Scalar.muli (Scalar.addi (Scalar.muli (Scf.iv 0#32 1#32 k) 2#32) 1#32) 1024#32 = BitVec.ofNat 32 (1024 * (2 * k.val + 1)) := by
  decide +kernel

variable (c : Dev nD) (i : grid0.Coords) (arg1 : Memref sig .tc .hbm S640x100000 .f32) (harg1 : arg1.IsWhole)
  (arg2 : Memref sig .tc .vmem S8x1024 .f32) (harg2 : arg2.IsWhole) (arg3 : Memref sig .tc .vmem S1x1x8 .i32) (harg3 : arg3.IsWhole)
  (arg4 : Memref sig .tc .vmem S8x100000 .f32) (harg4 : arg4.IsWhole) (arg5 : Memref sig .tc .vmem S8x100000 .f32) (harg5 : arg5.IsWhole)
  (arg6 arg7 : DmaSems sig S_) (v9 : IVec S8x1024 32) (v32 : FVec F S8x1024 .f32) (v33 : IVec S8x1024 32)

/-- One trip of the first loop, and what it yields. -/
@[irreducible] def trip1 (h6 : k0_cond6 i = 1#1) (X : BufTy.Contents (Elt F) arg4.view.ty) (k : Fin k0_t1_loop.trips) :
    { R : FVec F S8x1024 .f32 × IVec S8x1024 32 → FVec F S8x1024 .f32 × IVec S8x1024 32 // ∀ (E : Set ℕ) acc,
      (iprop((arg4.view.loc (c : Thread nD τ) ↦[arg4.view.set]{fullShare} X)) : sProp 𝕄)
      ⊢ wp frame (wpE (defs₀ (F := F)) Variants.none (c : Thread nD τ) none) E
          (k0_t1_body (F := F) i arg1 harg1 arg2 harg2 arg3 harg3 arg4 harg4 arg5 harg5 arg6 arg7 v9 v32 v33 h6 k acc)
          (fun yld => iprop(⌜yld = R acc⌝ ∗ (arg4.view.loc (c : Thread nD τ) ↦[arg4.view.set]{fullShare} X))) } := by
  have hk : k.val < 48 := Nat.lt_of_lt_of_le k.isLt k0_t1_abs.2.1
  refine ⟨?_, fun E acc => ?run⟩
  case run =>
    unfold k0_t1_body
    iintro HR
    sl_exec
    sl_step
    sl_close

/-- What the trip yields is the chunk step of the two chunks it reads. -/
theorem trip1_eq (h6 : k0_cond6 i = 1#1) (X : BufTy.Contents (Elt F) arg4.view.ty) (k : Fin k0_t1_loop.trips) (acc) :
    (trip1 c i arg1 harg1 arg2 harg2 arg3 harg3 arg4 harg4 arg5 harg5 arg6 arg7 v9 v32 v33 h6 X k).1 acc
      = chunk v9 (Scalar.muli (Scalar.addi (Scalar.muli (Scf.iv 0#32 1#32 k) 2#32) 1#32) 1024#32)
          (View.readAt (Elt F) arg4.view (Rect.unit (s := S8x100000) (k0_off6 k 1#32) S8x1024.size (k0_off6_inb i k h6 1)).toLoadRect X)
          (chunk v9 (Scalar.muli (Scalar.addi (Scalar.muli (Scf.iv 0#32 1#32 k) 2#32) 0#32) 1024#32)
            (View.readAt (Elt F) arg4.view (Rect.unit (s := S8x100000) (k0_off6 k 0#32) S8x1024.size (k0_off6_inb i k h6 0)).toLoadRect X) acc) := by
  sl_kernel_rfl

/-- One trip of the second loop, and what it yields. -/
@[irreducible] def trip2 (h6 : ¬(k0_cond6 i = 1#1)) (X : BufTy.Contents (Elt F) arg5.view.ty) (k : Fin k0_t2_loop.trips) :
    { R : FVec F S8x1024 .f32 × IVec S8x1024 32 → FVec F S8x1024 .f32 × IVec S8x1024 32 // ∀ (E : Set ℕ) acc,
      (iprop((arg5.view.loc (c : Thread nD τ) ↦[arg5.view.set]{fullShare} X)) : sProp 𝕄)
      ⊢ wp frame (wpE (defs₀ (F := F)) Variants.none (c : Thread nD τ) none) E
          (k0_t2_body (F := F) i arg1 harg1 arg2 harg2 arg3 harg3 arg4 harg4 arg5 harg5 arg6 arg7 v9 v32 v33 h6 k acc)
          (fun yld => iprop(⌜yld = R acc⌝ ∗ (arg5.view.loc (c : Thread nD τ) ↦[arg5.view.set]{fullShare} X))) } := by
  have hk : k.val < 48 := Nat.lt_of_lt_of_le k.isLt k0_t2_abs.2.1
  refine ⟨?_, fun E acc => ?run⟩
  case run =>
    unfold k0_t2_body
    iintro HR
    sl_exec
    sl_step
    sl_close

/-- What the trip yields is the chunk step of the two chunks it reads. -/
theorem trip2_eq (h6 : ¬(k0_cond6 i = 1#1)) (X : BufTy.Contents (Elt F) arg5.view.ty) (k : Fin k0_t2_loop.trips) (acc) :
    (trip2 c i arg1 harg1 arg2 harg2 arg3 harg3 arg4 harg4 arg5 harg5 arg6 arg7 v9 v32 v33 h6 X k).1 acc
      = chunk v9 (Scalar.muli (Scalar.addi (Scalar.muli (Scf.iv 0#32 1#32 k) 2#32) 1#32) 1024#32)
          (View.readAt (Elt F) arg5.view (Rect.unit (s := S8x100000) (k0_off7 k 1#32) S8x1024.size (k0_off7_inb i k h6 1)).toLoadRect X)
          (chunk v9 (Scalar.muli (Scalar.addi (Scalar.muli (Scf.iv 0#32 1#32 k) 2#32) 0#32) 1024#32)
            (View.readAt (Elt F) arg5.view (Rect.unit (s := S8x100000) (k0_off7 k 0#32) S8x1024.size (k0_off7_inb i k h6 0)).toLoadRect X) acc) := by
  sl_kernel_rfl

/-- Two more chunks of the slot are one more trip. -/
theorem runs_trip1 (harg4 : (Memref.whole cc0_scratch0).IsWhole) (h6 : k0_cond6 i = 1#1) (X : BufTy.Contents (Elt F) (Memref.whole cc0_scratch0).view.ty)
    (init : FVec F S8x1024 .f32 × IVec S8x1024 32) (k : Fin k0_t1_loop.trips) :
    runs (F := F) v9 X init (2 * (k.val + 1)) = (trip1 c i arg1 harg1 arg2 harg2 arg3 harg3 (Memref.whole cc0_scratch0) harg4 arg5 harg5 arg6 arg7 v9 v32 v33 h6 X k).1 (runs (F := F) v9 X init (2 * k.val)) := by
  have e0 : k0_off6 k 0#32 = ![0, 1024 * (2 * k.val)] := (k0_off6_eq k 0).trans (congrArg (fun m => ![0, m])
    (show 2048 * k.val + 1024 * 0 = 1024 * (2 * k.val) by omega))
  have e1 : k0_off6 k 1#32 = ![0, 1024 * (2 * k.val + 1)] := (k0_off6_eq k 1).trans (congrArg (fun m => ![0, m])
    (show 2048 * k.val + 1024 * 1 = 1024 * (2 * k.val + 1) by omega))
  rw [trip1_eq, read_cols0 X _ e0, read_cols0 X _ e1, start_even k, start_odd k]
  rfl

set_option warn.classDefReducibility false in
/-- The first loop by its invariant: the slot is held, and the carried registers are those after `2 k` chunks. -/
@[sl_loop] def loop1 (E : Set ℕ) (harg4 : (Memref.whole cc0_scratch0).IsWhole) (h6 : k0_cond6 i = 1#1)
    (X : BufTy.Contents (Elt F) (Memref.whole cc0_scratch0).view.ty) (init : FVec F S8x1024 .f32 × IVec S8x1024 32) :
    LoopInvTy_k0_t1 (F := F) Unit ℕ (Pipeline.UD sig nD τ) ℕ Variants.none c none E i arg1 harg1 arg2 harg2 arg3 harg3 (Memref.whole cc0_scratch0) harg4 arg5 harg5 arg6 arg7 v9 v32 v33 h6 init where
  inv k acc := iprop(((Memref.whole cc0_scratch0).view.loc (c : Thread nD τ) ↦[(Memref.whole cc0_scratch0).view.set]{fullShare} X) ∗ ⌜acc = runs (F := F) v9 X init (2 * k)⌝)
  step k acc := by
    iintro ⟨HR, %h_acc⟩
    subst h_acc
    iapply (wp_wand_r Idealize.ShloMosaic.frame (wpE (defs₀ (F := F)) Variants.none (c : Thread nD τ) none) E)
    isplitl [HR]
    · iapply ((trip1 (F := F) c i arg1 harg1 arg2 harg2 arg3 harg3 (Memref.whole cc0_scratch0) harg4 arg5 harg5 arg6 arg7 v9 v32 v33 h6 X k).2 E (runs (F := F) v9 X init (2 * k.val)))
      iexact HR
    · iintro %yld ⟨%h_res, HR⟩
      isplitl [HR]; · iexact HR
      ipureintro; rw [h_res]; exact (runs_trip1 ..).symm

/-- Two more chunks of the slot are one more trip. -/
theorem runs_trip2 (harg5 : (Memref.whole cc0_scratch1).IsWhole) (h6 : ¬(k0_cond6 i = 1#1)) (X : BufTy.Contents (Elt F) (Memref.whole cc0_scratch1).view.ty)
    (init : FVec F S8x1024 .f32 × IVec S8x1024 32) (k : Fin k0_t2_loop.trips) :
    runs (F := F) v9 X init (2 * (k.val + 1)) = (trip2 c i arg1 harg1 arg2 harg2 arg3 harg3 arg4 harg4 (Memref.whole cc0_scratch1) harg5 arg6 arg7 v9 v32 v33 h6 X k).1 (runs (F := F) v9 X init (2 * k.val)) := by
  have e0 : k0_off7 k 0#32 = ![0, 1024 * (2 * k.val)] := (k0_off7_eq k 0).trans (congrArg (fun m => ![0, m])
    (show 2048 * k.val + 1024 * 0 = 1024 * (2 * k.val) by omega))
  have e1 : k0_off7 k 1#32 = ![0, 1024 * (2 * k.val + 1)] := (k0_off7_eq k 1).trans (congrArg (fun m => ![0, m])
    (show 2048 * k.val + 1024 * 1 = 1024 * (2 * k.val + 1) by omega))
  rw [trip2_eq, read_cols1 X _ e0, read_cols1 X _ e1, start_even k, start_odd k]
  rfl

set_option warn.classDefReducibility false in
/-- The second loop by its invariant: the slot is held, and the carried registers are those after `2 k` chunks. -/
@[sl_loop] def loop2 (E : Set ℕ) (harg5 : (Memref.whole cc0_scratch1).IsWhole) (h6 : ¬(k0_cond6 i = 1#1))
    (X : BufTy.Contents (Elt F) (Memref.whole cc0_scratch1).view.ty) (init : FVec F S8x1024 .f32 × IVec S8x1024 32) :
    LoopInvTy_k0_t2 (F := F) Unit ℕ (Pipeline.UD sig nD τ) ℕ Variants.none c none E i arg1 harg1 arg2 harg2 arg3 harg3 arg4 harg4 (Memref.whole cc0_scratch1) harg5 arg6 arg7 v9 v32 v33 h6 init where
  inv k acc := iprop(((Memref.whole cc0_scratch1).view.loc (c : Thread nD τ) ↦[(Memref.whole cc0_scratch1).view.set]{fullShare} X) ∗ ⌜acc = runs (F := F) v9 X init (2 * k)⌝)
  step k acc := by
    iintro ⟨HR, %h_acc⟩
    subst h_acc
    iapply (wp_wand_r Idealize.ShloMosaic.frame (wpE (defs₀ (F := F)) Variants.none (c : Thread nD τ) none) E)
    isplitl [HR]
    · iapply ((trip2 (F := F) c i arg1 harg1 arg2 harg2 arg3 harg3 arg4 harg4 (Memref.whole cc0_scratch1) harg5 arg6 arg7 v9 v32 v33 h6 X k).2 E (runs (F := F) v9 X init (2 * k.val)))
      iexact HR
    · iintro %yld ⟨%h_res, HR⟩
      isplitl [HR]; · iexact HR
      ipureintro; rw [h_res]; exact (runs_trip2 ..).symm

end Cert.KernelIdeal.Hand
-- ==== Proof.Body.lean ====
/-
  One grid point of the kernel. At most one transfer is in flight at any time: a point waits for its own block, which
  the point before it started, and then starts the next point's into the other slot.
-/
module

public import proofs.«01_k».proof.Proof.Trips
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameSuffix
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The buffers -/

/-- The weights as the kernel reads them, 640 rows of 100000. -/
abbrev hb : Memref sig .tc .hbm S640x100000 .f32 := Memref.whole main_call0_v0
/-- The first slot. -/
abbrev sl0 : Memref sig .tc .vmem S8x100000 .f32 := Memref.whole cc0_scratch0
/-- The second slot. -/
abbrev sl1 : Memref sig .tc .vmem S8x100000 .f32 := Memref.whole cc0_scratch1

/-- Block `n` of the weights: rows `8 n` to `8 n + 7`. -/
def blkAt (V : FVec F S640x100000 .f32) (n : ℕ) : FVec F S8x100000 .f32 :=
  fun j => V (ix2 ⟨(8 * n + (j 0).val) % 640, Nat.mod_lt _ (by decide)⟩ (j 1))

/-- A store of a whole block of results leaves the block. -/
theorem read_store {κ : Kind} {sp : Space} (v : View sig κ sp S1x1x8 .i32) (f : v.ty.Contents (Elt F)) (inb)
    (x : S1x1x8.Idx → Elt F .i32) :
    v.read (Elt F) (v.writes (Elt F) f [⟨Rect.unit (s := S1x1x8) ![0, 0, 0] S1x1x8.size inb, x⟩]) = x := by
  funext y
  have h := View.read_writes_cons_emb v f (Rect.unit (s := S1x1x8) ![0, 0, 0] S1x1x8.size inb) x [] y
  have e : (Rect.unit (s := S1x1x8) ![0, 0, 0] S1x1x8.size inb).emb y = y := funext fun a => Fin.ext (by
    match a with
    | ⟨0, _⟩ => exact (show 0 + 1 * (y 0).val = (y 0).val by omega)
    | ⟨1, _⟩ => exact (show 0 + 1 * (y 1).val = (y 1).val by omega)
    | ⟨2, _⟩ => exact (show 0 + 1 * (y 2).val = (y 2).val by omega))
  rwa [e] at h

/-- The eight rows of the weights from row `8 n` on are block `n`. -/
theorem read_blk (V : BufTy.Contents (Elt F) hb.view.ty) {off : Fin 2 → ℕ} (inb) {n : ℕ} (hoff : off = ![8 * n, 0]) :
    View.read (Elt F) ((hb.slice (Rect.unit (s := S640x100000) off S8x100000.size inb) (fun _ => rfl)).view) V = blkAt (F := F) V n := by
  subst hoff
  have hn : 8 * n + 8 ≤ 640 := inb 0
  funext j
  have hj : (j 0).val < 8 := (j 0).isLt
  refine congrArg V (funext fun a => ?_)
  match a with
  | ⟨0, _⟩ => exact Fin.ext (show 8 * n + 1 * (j 0).val = (8 * n + (j 0).val) % 640 by omega)
  | ⟨1, _⟩ => exact Fin.ext (show 0 + 1 * (j 1).val = (j 1).val by omega)

/-- Block `n` of the weights in flight to the first slot: what the flight delivers, and the rest of the weights. -/
def flying0 (c : Dev nD) (V : Buf (Elt F) (hb.view.loc (c : Thread nD τ))) (n : ℕ) : sProp 𝕄 :=
  iprop(∃ I, Transfers.Flight countersEmb (c : Thread nD τ) (SemLoc.dma 4) () 100096
      iprop((sl0.view.loc (c : Thread nD τ) ↦[sl0.view.set]{fullShare} blkAt (F := F) V n) ∗ (hb.view.loc (c : Thread nD τ) ↦[I]{fullShare} V))
    ∗ (hb.view.loc (c : Thread nD τ) ↦[Finset.univ \ I]{fullShare} V))

/-- Block `n` of the weights in flight to the second slot. -/
def flying1 (c : Dev nD) (V : Buf (Elt F) (hb.view.loc (c : Thread nD τ))) (n : ℕ) : sProp 𝕄 :=
  iprop(∃ I, Transfers.Flight countersEmb (c : Thread nD τ) (SemLoc.dma 5) () 100096
      iprop((sl1.view.loc (c : Thread nD τ) ↦[sl1.view.set]{fullShare} blkAt (F := F) V n) ∗ (hb.view.loc (c : Thread nD τ) ↦[I]{fullShare} V))
    ∗ (hb.view.loc (c : Thread nD τ) ↦[Finset.univ \ I]{fullShare} V))

/-- The first slot, free. -/
def free0 (c : Dev nD) : sProp 𝕄 :=
  iprop((∃ f : Buf (Elt F) (sl0.view.loc (c : Thread nD τ)), sl0.view.loc (c : Thread nD τ) ↦[sl0.view.set]{fullShare} f) ∗ semVal ((c : Thread nD τ), SemLoc.dma 4) 0)

/-- The second slot, free. -/
def free1 (c : Dev nD) : sProp 𝕄 :=
  iprop((∃ f : Buf (Elt F) (sl1.view.loc (c : Thread nD τ)), sl1.view.loc (c : Thread nD τ) ↦[sl1.view.set]{fullShare} f) ∗ semVal ((c : Thread nD τ), SemLoc.dma 5) 0)

/-- A landed block is the slot's contents. -/
theorem landed0 (f : BufTy.Contents (Elt F) sl0.view.ty) (p q : S8x100000.Idx → Elt F .f32) (h : p = q) :
    sl0.view.writes (Elt F) f [⟨Rect.whole S8x100000, p⟩] = q :=
  by
  have e := View.read_writes_whole (Val := Elt F) sl0.view f p
  subst h
  generalize sl0.view.writes (Elt F) f [⟨Rect.whole S8x100000, p⟩] = g at e ⊢
  exact (View.read_whole (Val := Elt F) cc0_scratch0 g).symm.trans e
/-- A landed block is the slot's contents. -/
theorem landed1 (f : BufTy.Contents (Elt F) sl1.view.ty) (p q : S8x100000.Idx → Elt F .f32) (h : p = q) :
    sl1.view.writes (Elt F) f [⟨Rect.whole S8x100000, p⟩] = q :=
  by
  have e := View.read_writes_whole (Val := Elt F) sl1.view f p
  subst h
  generalize sl1.view.writes (Elt F) f [⟨Rect.whole S8x100000, p⟩] = g at e ⊢
  exact (View.read_whole (Val := Elt F) cc0_scratch1 g).symm.trans e

/-- The two loops take as many trips. -/
theorem trips_eq : k0_t2_loop.trips = k0_t1_loop.trips := by decide +kernel

/-- The last columns' window is read as it is. -/
theorem pay245_eq (w : Vec F S8x1024 .f32) : k0_pay245 w = w :=
  funext fun j => congrArg w (Shape.reshapeEquiv_self _ j)

/-- An even point past the first: its block arrives in the first slot, and the next point's starts into the second. -/
theorem run_even (c : Dev nD) (i : grid0.Coords) (h1 : ¬ k0_cond1 i = 1#1) (h2 : k0_cond2 i = 1#1) (h3 : ¬ k0_cond3 i = 1#1)
    (h4 : k0_cond4 i = 1#1) (h5 : ¬ k0_cond5 i = 1#1) (h6 : k0_cond6 i = 1#1)
    (arg2 : Memref sig .tc .vmem S8x1024 .f32) (harg2 : arg2.IsWhole) (arg3 : Memref sig .tc .vmem S1x1x8 .i32) (harg3 : arg3.IsWhole)
    (V : Buf (Elt F) (hb.view.loc (c : Thread nD τ)))
    (w : FVec F S8x1024 .f32) (W : Waits sig Unit) (K : PUnit → sProp 𝕄) :
    iprop(owns (c : Thread nD τ) arg2 fullShare w ∗ (∃ d, owns (c : Thread nD τ) arg3 fullShare d)
        ∗ flying0 c V (i 0).val ∗ free1 (F := F) c ∗ owes (c : Thread nD τ) 0 W
        ∗ (iprop(owns (c : Thread nD τ) arg2 fullShare w ∗ owns (c : Thread nD τ) arg3 fullShare (outBlock i (blkAt (F := F) V (i 0).val) w)
            ∗ flying1 c V ((i 0).val + 1) ∗ free0 (F := F) c ∗ (∃ W', owes (c : Thread nD τ) 0 W')) -∗ K ⟨⟩))
      ⊢ wp frame (wpE (defs₀ (F := F)) Variants.none c none) Set.univ
          (cc0__sample_kernel i hb (Memref.isWhole_whole _) arg2 harg2 arg3 harg3 sl0 (Memref.isWhole_whole _) sl1 (Memref.isWhole_whole _)
            cc0_scratch2 cc0_scratch3) K := by
  rw [cc0__sample_kernel_eq_skeleton]; unfold cc0__sample_kernel_skel
  unfold owns flying0 free1
  iintro ⟨⟨%f2, %hf2, H2⟩, ⟨%d3, %f3, -, H3⟩, ⟨%I, HF, Hh⟩, ⟨⟨%f1, HS1⟩, Hq1⟩, HW, Hk⟩
  sl_exec
  sl_step
  iapply Hk
  isplitl [H2]
  · iexists f2; isplitr; · ipureintro; exact hf2
    iexact H2
  isplitl [H3]
  · iexists _; isplitr; swap; · iexact H3
    ipureintro
    rw [read_store]
    refine Eq.trans (b := k0_pay1 (BitVec.ofNat 32 (i 0).val) _ _ (k0_pay245
      (View.readAt (Elt F) arg2.view (Rect.unit (s := S8x1024) ![0, 0] S8x1024.size inb_S8x1024_S8x1024_0_0).toLoadRect f2)) _ _) rfl ?_
    rw [View.readAt_full, hf2, pay245_eq]
    refine Eq.trans (b := pick (BitVec.ofNat 32 (i 0).val) (lastChunk (k0_pay236 i) w (chunk (k0_pay236 i) 98304#32
        (View.readAt (Elt F) sl0.view (Rect.unit (s := S8x100000) ![0, 98304] S8x1024.size inb_S8x100000_S8x1024_0_98304).toLoadRect (blkAt (F := F) V (i 0).val))
        (runs (F := F) (k0_pay236 i) (blkAt (F := F) V (i 0).val) (k0_pay237, k0_pay238) (2 * k0_t1_loop.trips))))) (by sl_kernel_rfl) ?_
    rw [read_cols0 _ _ rfl]
    rfl
  unfold flying1 free0
  isplitl [Hq1 Hh]
  · iexists _
    isplitl [Hq1]; swap; · iexact Hh
    iapply (Transfers.Flight_mono (D := _) ?_)
    rotate_left
    · iexact Hq1
    iintro ⟨Ha, Hb⟩
    isplitl [Ha]; swap; · iexact Hb
    rw [landed1 _ _ (blkAt (F := F) V ((i 0).val + 1)) ?_]
    · iexact Ha
    · exact read_blk V _ (k0_off4_eq i)
  isplitl [HF HF_dst]
  · isplitl [HF_dst]
    · iexists _; iexact HF_dst
    · iexact HF
  · iexists _; iexact HW

/-- An odd point before the last: the same with the slots exchanged. -/
theorem run_odd (c : Dev nD) (i : grid0.Coords) (h1 : ¬ k0_cond1 i = 1#1) (h2 : ¬ k0_cond2 i = 1#1) (h3 : k0_cond3 i = 1#1)
    (h4 : ¬ k0_cond4 i = 1#1) (h5 : k0_cond5 i = 1#1) (h6 : ¬ k0_cond6 i = 1#1)
    (arg2 : Memref sig .tc .vmem S8x1024 .f32) (harg2 : arg2.IsWhole) (arg3 : Memref sig .tc .vmem S1x1x8 .i32) (harg3 : arg3.IsWhole)
    (V : Buf (Elt F) (hb.view.loc (c : Thread nD τ)))
    (w : FVec F S8x1024 .f32) (W : Waits sig Unit) (K : PUnit → sProp 𝕄) :
    iprop(owns (c : Thread nD τ) arg2 fullShare w ∗ (∃ d, owns (c : Thread nD τ) arg3 fullShare d)
        ∗ flying1 c V (i 0).val ∗ free0 (F := F) c ∗ owes (c : Thread nD τ) 0 W
        ∗ (iprop(owns (c : Thread nD τ) arg2 fullShare w ∗ owns (c : Thread nD τ) arg3 fullShare (outBlock i (blkAt (F := F) V (i 0).val) w)
            ∗ flying0 c V ((i 0).val + 1) ∗ free1 (F := F) c ∗ (∃ W', owes (c : Thread nD τ) 0 W')) -∗ K ⟨⟩))
      ⊢ wp frame (wpE (defs₀ (F := F)) Variants.none c none) Set.univ
          (cc0__sample_kernel i hb (Memref.isWhole_whole _) arg2 harg2 arg3 harg3 sl0 (Memref.isWhole_whole _) sl1 (Memref.isWhole_whole _)
            cc0_scratch2 cc0_scratch3) K := by
  rw [cc0__sample_kernel_eq_skeleton]; unfold cc0__sample_kernel_skel
  unfold owns flying1 free0
  iintro ⟨⟨%f2, %hf2, H2⟩, ⟨%d3, %f3, -, H3⟩, ⟨%I, HF, Hh⟩, ⟨⟨%f0, HS0⟩, Hq0⟩, HW, Hk⟩
  sl_exec
  sl_step
  iapply Hk
  isplitl [H2]
  · iexists f2; isplitr; · ipureintro; exact hf2
    iexact H2
  isplitl [H3]
  · iexists _; isplitr; swap; · iexact H3
    ipureintro
    rw [read_store]
    refine Eq.trans (b := k0_pay1 (BitVec.ofNat 32 (i 0).val) _ _ (k0_pay245
      (View.readAt (Elt F) arg2.view (Rect.unit (s := S8x1024) ![0, 0] S8x1024.size inb_S8x1024_S8x1024_0_0).toLoadRect f2)) _ _) rfl ?_
    rw [View.readAt_full, hf2, pay245_eq]
    refine Eq.trans (b := pick (BitVec.ofNat 32 (i 0).val) (lastChunk (k0_pay236 i) w (chunk (k0_pay236 i) 98304#32
        (View.readAt (Elt F) sl1.view (Rect.unit (s := S8x100000) ![0, 98304] S8x1024.size inb_S8x100000_S8x1024_0_98304).toLoadRect (blkAt (F := F) V (i 0).val))
        (runs (F := F) (k0_pay236 i) (blkAt (F := F) V (i 0).val) (k0_pay237, k0_pay238) (2 * k0_t2_loop.trips))))) (by sl_kernel_rfl) ?_
    rw [read_cols1 _ _ rfl, trips_eq]
    rfl
  unfold flying0 free1
  isplitl [Hq0 Hh]
  · iexists _
    isplitl [Hq0]; swap; · iexact Hh
    iapply (Transfers.Flight_mono (D := _) ?_)
    rotate_left
    · iexact Hq0
    iintro ⟨Ha, Hb⟩
    isplitl [Ha]; swap; · iexact Hb
    rw [landed0 _ _ (blkAt (F := F) V ((i 0).val + 1)) ?_]
    · iexact Ha
    · exact read_blk V _ (k0_off5_eq i)
  isplitl [HF HF_dst]
  · isplitl [HF_dst]
    · iexists _; iexact HF_dst
    · iexact HF
  · iexists _; iexact HW

/-- The last point: its block arrives in the second slot, and nothing more starts. -/
theorem run_last (c : Dev nD) (i : grid0.Coords) (h1 : ¬ k0_cond1 i = 1#1) (h2 : ¬ k0_cond2 i = 1#1) (h3 : k0_cond3 i = 1#1)
    (h4 : ¬ k0_cond4 i = 1#1) (h5 : ¬ k0_cond5 i = 1#1) (h6 : ¬ k0_cond6 i = 1#1)
    (arg2 : Memref sig .tc .vmem S8x1024 .f32) (harg2 : arg2.IsWhole) (arg3 : Memref sig .tc .vmem S1x1x8 .i32) (harg3 : arg3.IsWhole)
    (V : Buf (Elt F) (hb.view.loc (c : Thread nD τ)))
    (w : FVec F S8x1024 .f32) (W : Waits sig Unit) (K : PUnit → sProp 𝕄) :
    iprop(owns (c : Thread nD τ) arg2 fullShare w ∗ (∃ d, owns (c : Thread nD τ) arg3 fullShare d)
        ∗ flying1 c V (i 0).val ∗ owes (c : Thread nD τ) 0 W
        ∗ (iprop(owns (c : Thread nD τ) arg2 fullShare w ∗ owns (c : Thread nD τ) arg3 fullShare (outBlock i (blkAt (F := F) V (i 0).val) w)
            ∗ (hb.view.loc (c : Thread nD τ) ↦[Finset.univ]{fullShare} V) ∗ free1 (F := F) c ∗ (∃ W', owes (c : Thread nD τ) 0 W')) -∗ K ⟨⟩))
      ⊢ wp frame (wpE (defs₀ (F := F)) Variants.none c none) Set.univ
          (cc0__sample_kernel i hb (Memref.isWhole_whole _) arg2 harg2 arg3 harg3 sl0 (Memref.isWhole_whole _) sl1 (Memref.isWhole_whole _)
            cc0_scratch2 cc0_scratch3) K := by
  rw [cc0__sample_kernel_eq_skeleton]; unfold cc0__sample_kernel_skel
  unfold owns flying1
  iintro ⟨⟨%f2, %hf2, H2⟩, ⟨%d3, %f3, -, H3⟩, ⟨%I, HF, Hh⟩, HW, Hk⟩
  sl_exec
  sl_step
  iapply Hk
  isplitl [H2]
  · iexists f2; isplitr; · ipureintro; exact hf2
    iexact H2
  isplitl [H3]
  · iexists _; isplitr; swap; · iexact H3
    ipureintro
    rw [read_store]
    refine Eq.trans (b := k0_pay1 (BitVec.ofNat 32 (i 0).val) _ _ (k0_pay245
      (View.readAt (Elt F) arg2.view (Rect.unit (s := S8x1024) ![0, 0] S8x1024.size inb_S8x1024_S8x1024_0_0).toLoadRect f2)) _ _) rfl ?_
    rw [View.readAt_full, hf2, pay245_eq]
    refine Eq.trans (b := pick (BitVec.ofNat 32 (i 0).val) (lastChunk (k0_pay236 i) w (chunk (k0_pay236 i) 98304#32
        (View.readAt (Elt F) sl1.view (Rect.unit (s := S8x100000) ![0, 98304] S8x1024.size inb_S8x100000_S8x1024_0_98304).toLoadRect (blkAt (F := F) V (i 0).val))
        (runs (F := F) (k0_pay236 i) (blkAt (F := F) V (i 0).val) (k0_pay237, k0_pay238) (2 * k0_t2_loop.trips))))) (by sl_kernel_rfl) ?_
    rw [read_cols1 _ _ rfl, trips_eq]
    rfl
  unfold free1
  isplitl [Hh]; · iexact Hh
  isplitl [HF HF_dst]
  · isplitl [HF_dst]
    · iexists _; iexact HF_dst
    · iexact HF
  · iexists _; iexact HW

/-- The first point: it starts and awaits its own block, and starts the second point's. -/
theorem run_first (c : Dev nD) (i : grid0.Coords) (h1 : k0_cond1 i = 1#1) (h2 : k0_cond2 i = 1#1) (h3 : ¬ k0_cond3 i = 1#1)
    (h4 : k0_cond4 i = 1#1) (h5 : ¬ k0_cond5 i = 1#1) (h6 : k0_cond6 i = 1#1)
    (arg2 : Memref sig .tc .vmem S8x1024 .f32) (harg2 : arg2.IsWhole) (arg3 : Memref sig .tc .vmem S1x1x8 .i32) (harg3 : arg3.IsWhole)
    (V : Buf (Elt F) (hb.view.loc (c : Thread nD τ)))
    (w : FVec F S8x1024 .f32) (W : Waits sig Unit) (K : PUnit → sProp 𝕄) :
    iprop(owns (c : Thread nD τ) arg2 fullShare w ∗ (∃ d, owns (c : Thread nD τ) arg3 fullShare d)
        ∗ (hb.view.loc (c : Thread nD τ) ↦[Finset.univ]{fullShare} V) ∗ free0 (F := F) c ∗ free1 (F := F) c ∗ owes (c : Thread nD τ) 0 W
        ∗ (iprop(owns (c : Thread nD τ) arg2 fullShare w ∗ owns (c : Thread nD τ) arg3 fullShare (outBlock i (blkAt (F := F) V (i 0).val) w)
            ∗ flying1 c V ((i 0).val + 1) ∗ free0 (F := F) c ∗ (∃ W', owes (c : Thread nD τ) 0 W')) -∗ K ⟨⟩))
      ⊢ wp frame (wpE (defs₀ (F := F)) Variants.none c none) Set.univ
          (cc0__sample_kernel i hb (Memref.isWhole_whole _) arg2 harg2 arg3 harg3 sl0 (Memref.isWhole_whole _) sl1 (Memref.isWhole_whole _)
            cc0_scratch2 cc0_scratch3) K := by
  rw [cc0__sample_kernel_eq_skeleton]; unfold cc0__sample_kernel_skel
  unfold owns free0 free1
  iintro ⟨⟨%f2, %hf2, H2⟩, ⟨%d3, %f3, -, H3⟩, Hh, ⟨⟨%f0, HS0⟩, Hq0⟩, ⟨⟨%f1, HS1⟩, Hq1⟩, HW, Hk⟩
  sl_exec
  sl_step
  iapply Hk
  isplitl [H2]
  · iexists f2; isplitr; · ipureintro; exact hf2
    iexact H2
  isplitl [H3]
  · iexists _; isplitr; swap; · iexact H3
    ipureintro
    rw [read_store]
    refine Eq.trans (b := k0_pay1 (BitVec.ofNat 32 (i 0).val) _ _ (k0_pay245
      (View.readAt (Elt F) arg2.view (Rect.unit (s := S8x1024) ![0, 0] S8x1024.size inb_S8x1024_S8x1024_0_0).toLoadRect f2)) _ _) rfl ?_
    rw [View.readAt_full, hf2, pay245_eq]
    refine Eq.trans (b := pick (BitVec.ofNat 32 (i 0).val) (lastChunk (k0_pay236 i) w (chunk (k0_pay236 i) 98304#32
        (View.readAt (Elt F) sl0.view (Rect.unit (s := S8x100000) ![0, 98304] S8x1024.size inb_S8x100000_S8x1024_0_98304).toLoadRect
          (sl0.view.writes (Elt F) sl0.view.junk [⟨Rect.whole S8x100000, run_first.sl.dma0 c i h1 V⟩]))
        (runs (F := F) (k0_pay236 i) (sl0.view.writes (Elt F) sl0.view.junk [⟨Rect.whole S8x100000, run_first.sl.dma0 c i h1 V⟩]) (k0_pay237, k0_pay238) (2 * k0_t1_loop.trips))))) (by sl_kernel_rfl) ?_
    rw [read_cols0 _ _ rfl, landed0 _ _ (blkAt (F := F) V (i 0).val) ?_]
    · rfl
    · exact read_blk V _ (k0_off1_eq i)
  unfold flying1
  isplitl [Hq1 Hh]
  · iexists _
    isplitl [Hq1]; swap; · iexact Hh
    iapply (Transfers.Flight_mono (D := _) ?_)
    rotate_left
    · iexact Hq1
    iintro ⟨Ha, Hb⟩
    isplitl [Ha]; swap; · iexact Hb
    rw [landed1 _ _ (blkAt (F := F) V ((i 0).val + 1)) ?_]
    · iexact Ha
    · exact read_blk V _ (k0_off4_eq i)
  isplitl [Hq0 HS0]
  · isplitl [HS0]
    · iexists _; iexact HS0
    · iexact Hq0
  · iexists _; iexact HW

end Cert.KernelIdeal.Hand
-- ==== Proof.Point.lean ====
/-
  The grid's points in order: what is held between two points (nothing in flight before the first and after the last, the
  next point's block on its way to the point's slot otherwise), one point's step from each to the next, and the run of
  the whole kernel with what its arrays hold at the end.
-/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which of the body's branches a point takes -/

theorem coords_val : ∀ t : Fin grid0.N, ((grid0.coords t) 0).val = t.val := by decide +kernel
theorem cond1_iff : ∀ i : grid0.Coords, k0_cond1 i = 1#1 ↔ (i 0).val = 0 := by decide +kernel
theorem cond2_iff : ∀ i : grid0.Coords, k0_cond2 i = 1#1 ↔ (i 0).val % 2 = 0 := by decide +kernel
theorem cond3_iff : ∀ i : grid0.Coords, k0_cond3 i = 1#1 ↔ (i 0).val % 2 = 1 := by decide +kernel
theorem cond4_iff : ∀ i : grid0.Coords, k0_cond4 i = 1#1 ↔ ((i 0).val % 2 = 0 ∧ (i 0).val + 1 < 80) := by decide +kernel
theorem cond5_iff : ∀ i : grid0.Coords, k0_cond5 i = 1#1 ↔ ((i 0).val % 2 = 1 ∧ (i 0).val + 1 < 80) := by decide +kernel
theorem cond6_iff : ∀ i : grid0.Coords, k0_cond6 i = 1#1 ↔ (i 0).val % 2 = 0 := by decide +kernel

/-! ## What is held between points -/

/-- Before point `p`: at both ends the weights whole and both slots free; otherwise block `p` on its way, to the first slot
    if `p` is even and to the second if it is odd, and the other slot free. -/
def moving (c : Dev nD) (W : Buf (Elt F) (hb.view.loc (c : Thread nD τ))) (p : ℕ) : sProp 𝕄 :=
  if p = 0 ∨ p = 80 then iprop((hb.view.loc (c : Thread nD τ) ↦[Finset.univ]{fullShare} W) ∗ free0 (F := F) c ∗ free1 (F := F) c)
  else if p % 2 = 0 then iprop(flying0 c W p ∗ free1 (F := F) c)
  else iprop(flying1 c W p ∗ free0 (F := F) c)

theorem moving_ends (c : Dev nD) (W : Buf (Elt F) (hb.view.loc (c : Thread nD τ))) {p : ℕ} (h : p = 0 ∨ p = 80) :
    moving c W p = iprop((hb.view.loc (c : Thread nD τ) ↦[Finset.univ]{fullShare} W) ∗ free0 (F := F) c ∗ free1 (F := F) c) := if_pos h
theorem moving_even (c : Dev nD) (W : Buf (Elt F) (hb.view.loc (c : Thread nD τ))) {p : ℕ} (h : ¬ (p = 0 ∨ p = 80)) (h' : p % 2 = 0) :
    moving c W p = iprop(flying0 c W p ∗ free1 (F := F) c) := (if_neg h).trans (if_pos h')
theorem moving_odd (c : Dev nD) (W : Buf (Elt F) (hb.view.loc (c : Thread nD τ))) {p : ℕ} (h : ¬ (p = 0 ∨ p = 80)) (h' : ¬ p % 2 = 0) :
    moving c W p = iprop(flying1 c W p ∗ free0 (F := F) c) := (if_neg h).trans (if_neg h')

/-- One point, whichever branches it takes: from what is held before it to what is held before the next. -/
theorem run_point (c : Dev nD) (i : grid0.Coords)
    (arg2 : Memref sig .tc .vmem S8x1024 .f32) (harg2 : arg2.IsWhole) (arg3 : Memref sig .tc .vmem S1x1x8 .i32) (harg3 : arg3.IsWhole)
    (V : Buf (Elt F) (hb.view.loc (c : Thread nD τ)))
    (w : FVec F S8x1024 .f32) (W : Waits sig Unit) (K : PUnit → sProp 𝕄) :
    iprop(owns (c : Thread nD τ) arg2 fullShare w ∗ (∃ d, owns (c : Thread nD τ) arg3 fullShare d)
        ∗ moving c V (i 0).val ∗ owes (c : Thread nD τ) 0 W
        ∗ (iprop(owns (c : Thread nD τ) arg2 fullShare w ∗ owns (c : Thread nD τ) arg3 fullShare (outBlock i (blkAt (F := F) V (i 0).val) w)
            ∗ moving c V ((i 0).val + 1) ∗ (∃ W', owes (c : Thread nD τ) 0 W')) -∗ K ⟨⟩))
      ⊢ wp frame (wpE (defs₀ (F := F)) Variants.none c none) Set.univ
          (cc0__sample_kernel i hb (Memref.isWhole_whole _) arg2 harg2 arg3 harg3 sl0 (Memref.isWhole_whole _) sl1 (Memref.isWhole_whole _)
            cc0_scratch2 cc0_scratch3) K := by
  have hi : (i 0).val < 80 := (i 0).isLt
  by_cases hz : (i 0).val = 0
  · rw [moving_ends c V (Or.inl hz), moving_odd c V (p := (i 0).val + 1) (by omega) (by omega)]
    iintro ⟨H2, H3, ⟨Hh, Hf0, Hf1⟩, HW, Hk⟩
    iapply (run_first c i ((cond1_iff i).mpr hz) ((cond2_iff i).mpr (by omega)) (fun h => by have := (cond3_iff i).mp h; omega)
      ((cond4_iff i).mpr (by omega)) (fun h => by have := (cond5_iff i).mp h; omega) ((cond6_iff i).mpr (by omega)) arg2 harg2 arg3 harg3 V w W K)
    isplitl [H2]; · iexact H2
    isplitl [H3]; · iexact H3
    isplitl [Hh]; · iexact Hh
    isplitl [Hf0]; · iexact Hf0
    isplitl [Hf1]; · iexact Hf1
    isplitl [HW]; · iexact HW
    iintro ⟨H2, H3, HX, HY, HW⟩
    iapply Hk
    isplitl [H2]; · iexact H2
    isplitl [H3]; · iexact H3
    isplitr [HW]; swap; · iexact HW
    isplitl [HX]; · iexact HX
    iexact HY
  · by_cases he : (i 0).val % 2 = 0
    · rw [moving_even c V (p := (i 0).val) (by omega) he, moving_odd c V (p := (i 0).val + 1) (by omega) (by omega)]
      iintro ⟨H2, H3, ⟨Hf0, Hf1⟩, HW, Hk⟩
      iapply (run_even c i (fun h => hz ((cond1_iff i).mp h)) ((cond2_iff i).mpr he) (fun h => by have := (cond3_iff i).mp h; omega)
        ((cond4_iff i).mpr (by omega)) (fun h => by have := (cond5_iff i).mp h; omega) ((cond6_iff i).mpr he) arg2 harg2 arg3 harg3 V w W K)
      isplitl [H2]; · iexact H2
      isplitl [H3]; · iexact H3
      isplitl [Hf0]; · iexact Hf0
      isplitl [Hf1]; · iexact Hf1
      isplitl [HW]; · iexact HW
      iintro ⟨H2, H3, HX, HY, HW⟩
      iapply Hk
      isplitl [H2]; · iexact H2
      isplitl [H3]; · iexact H3
      isplitr [HW]; swap; · iexact HW
      isplitl [HX]; · iexact HX
      iexact HY
    · by_cases hl : (i 0).val = 79
      · rw [moving_odd c V (p := (i 0).val) (by omega) he, moving_ends c V (p := (i 0).val + 1) (by omega)]
        iintro ⟨H2, H3, ⟨Hf1, Hf0⟩, HW, Hk⟩
        iapply (run_last c i (fun h => hz ((cond1_iff i).mp h)) (fun h => he ((cond2_iff i).mp h)) ((cond3_iff i).mpr (by omega))
          (fun h => by have := (cond4_iff i).mp h; omega) (fun h => by have := (cond5_iff i).mp h; omega) (fun h => he ((cond6_iff i).mp h)) arg2 harg2 arg3 harg3 V w W K)
        isplitl [H2]; · iexact H2
        isplitl [H3]; · iexact H3
        isplitl [Hf1]; · iexact Hf1
        isplitl [HW]; · iexact HW
        iintro ⟨H2, H3, HX, HY, HW⟩
        iapply Hk
        isplitl [H2]; · iexact H2
        isplitl [H3]; · iexact H3
        isplitr [HW]; swap; · iexact HW
        isplitl [HX]; · iexact HX
        isplitl [Hf0]; · iexact Hf0
        iexact HY
      · rw [moving_odd c V (p := (i 0).val) (by omega) he, moving_even c V (p := (i 0).val + 1) (by omega) (by omega)]
        iintro ⟨H2, H3, ⟨Hf1, Hf0⟩, HW, Hk⟩
        iapply (run_odd c i (fun h => hz ((cond1_iff i).mp h)) (fun h => he ((cond2_iff i).mp h)) ((cond3_iff i).mpr (by omega))
          (fun h => by have := (cond4_iff i).mp h; omega) ((cond5_iff i).mpr (by omega)) (fun h => he ((cond6_iff i).mp h)) arg2 harg2 arg3 harg3 V w W K)
        isplitl [H2]; · iexact H2
        isplitl [H3]; · iexact H3
        isplitl [Hf1]; · iexact Hf1
        isplitl [Hf0]; · iexact Hf0
        isplitl [HW]; · iexact HW
        iintro ⟨H2, H3, HX, HY, HW⟩
        iapply Hk
        isplitl [H2]; · iexact H2
        isplitl [H3]; · iexact H3
        isplitr [HW]; swap; · iexact HW
        isplitl [HX]; · iexact HX
        iexact HY

/-! ## The launch's data -/

/-- The kernel's two transfer cells. -/
abbrev cells : Fin 2 → SemLoc sig := fun j => (![SemLoc.dma 4, SemLoc.dma 5] : Fin 2 → SemLoc sig) j
theorem cells_facts : Pipeline.OwnSemFacts spec0 cells := by decide
/-- The array the kernel's transfers read. -/
def moved : Finset (Ref sig .tc) := {main_call0_v0}
theorem moved_sub : moved ⊆ Pipeline.restRefs sig spec0 := by decide

/-- What a point leaves in the result's buffer. -/
def outAt (c : Dev nD) (t : Fin cfg0.N) : IVec S1x1x8 32 :=
  outBlock (grid0.coords t) (blkAt (F := F) (V m c main_call0_v0) t.val) (iblk m c 0 t)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAt m c t
  Φ p := iprop((∃ r, prngReg c r) ∗ moving c (V m c main_call0_v0) p.val)
  q _ := fullShare
  owed _ := 0

theorem A_eq (c : Dev nD) (w : Fin cfg0.W) : (dats m 0 c).A w = V m c (Pipeline.arrRef spec0 w) := by
  dsimp only [dats]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

/-- The window of the last columns holds its block at every point. -/
theorem before_in (c : Dev nD) (t : Fin cfg0.N) (d) : (dats m 0 c).before 0 t d = iblk m c 0 t :=
  ((dats m 0 c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_point (c : Dev nD) (t : Fin cfg0.N) :
    pointPre m c t ⊢ wp frame (wpE (defs₀ (F := F)) Variants.none c none) Set.univ (bodyAt0 t) (fun _ => pointPost m c t) := by
  unfold pointPre pointPost bodyAt0
  rw [after_in, after_out]
  rw [show (dats m 0 c).Φ t.castSucc = iprop((∃ r, prngReg c r) ∗ moving c (V m c main_call0_v0) t.val) from rfl,
    show (dats m 0 c).Φ t.succ = iprop((∃ r, prngReg c r) ∗ moving c (V m c main_call0_v0) (t.val + 1)) from rfl]
  unfold Dat.owesAt Pipeline.owesWithin
  rw [show (dats m 0 c).owed t.castSucc = 0 from rfl, show (dats m 0 c).owed t.succ = 0 from rfl]
  unfold outAt
  have ht : ((grid0.coords t) 0).val = t.val := coords_val t
  rw [← ht]
  iintro ⟨⟨Hg, HM⟩, ⟨%W, -, HW⟩, ⟨%d0, H0⟩, ⟨%d1, H1⟩⟩
  rw [before_in]
  iapply (run_point c (grid0.coords t) _ _ _ _ (V m c main_call0_v0) (iblk m c 0 t) W _)
  isplitl [H0]; · iexact H0
  isplitl [H1]; · iexists _; iexact H1
  isplitl [HM]; · iexact HM
  isplitl [HW]; · iexact HW
  iintro ⟨H0, H1, HM, ⟨%W', HW⟩⟩
  isplitl [Hg HM]
  · isplitl [Hg]; · iexact Hg
    iexact HM
  isplitl [HW]
  · iexists W'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_point m c t) rfl .rfl fun _ => .rfl

end Cert.KernelIdeal.Hand
-- ==== Proof.Launch.lean ====
/-
  The run of the whole kernel: it ends, faults nowhere, leaves every counter at zero and its argument as it was, and its
  result's array holds what its points stored.
-/
module

public import proofs.«01_k».proof.Proof.Point

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program around the kernel call: the lines before it, the call, the line after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 4) 0 ∗ semVal ((c : Thread nD τ), SemLoc.dma 5) 0) := by
  rw [Pipeline.ownSems0_eq_of_list c cells [0, 1] (by decide) (by decide)]; rfl

theorem moved_eq (c : Dev nD) :
    (bigSep moved (fun b => ((c : Thread nD τ).loc b) ↦{fullShare} V m c b) : sProp 𝕄)
      = iprop(((c : Thread nD τ).loc main_call0_v0) ↦{fullShare} V m c main_call0_v0) := by
  rw [BI.bigSep_eq_bigSepL_of_eq [main_call0_v0] (by decide) (by decide)]; rfl

/-- What the launch gives is what is held before the first point. -/
theorem launch_in (c : Dev nD) : Pipeline.ΦD cells spec0 moved (V m) c ⊢ (dats m 0 c).Φ 0 := by
  rw [show (dats m 0 c).Φ 0 = iprop((∃ r, prngReg c r) ∗ moving c (V m c main_call0_v0) 0) from rfl,
    moving_ends c _ (Or.inl rfl), Pipeline.ΦD_eq, cells_eq, moved_eq, scopedRest0_eq]
  unfold free0 free1
  iintro ⟨⟨⟨%f0, HS0⟩, ⟨%f1, HS1⟩⟩, Hg, ⟨Hq0, Hq1⟩, Hh⟩
  isplitl [Hg]; · iexact Hg
  isplitl [Hh]; · iexact Hh
  isplitl [HS0 Hq0]
  · isplitl [HS0]; · iexists f0; rw [show sl0.view.set = Finset.univ from View.set_whole cc0_scratch0]; iexact HS0
    iexact Hq0
  · isplitl [HS1]; · iexists f1; rw [show sl1.view.set = Finset.univ from View.set_whole cc0_scratch1]; iexact HS1
    iexact Hq1

/-- What is held after the last point is what the launch takes back. -/
theorem launch_out (c : Dev nD) : (dats m 0 c).Φ (Fin.last cfg0.N) ⊢ Pipeline.ΦD cells spec0 moved (V m) c := by
  rw [show (dats m 0 c).Φ (Fin.last cfg0.N) = iprop((∃ r, prngReg c r) ∗ moving c (V m c main_call0_v0) grid0.N) from rfl,
    moving_ends c _ (Or.inr N_0), Pipeline.ΦD_eq, cells_eq, moved_eq, scopedRest0_eq]
  unfold free0 free1
  iintro ⟨Hg, Hh, ⟨⟨%f0, HS0⟩, Hq0⟩, ⟨⟨%f1, HS1⟩, Hq1⟩⟩
  isplitl [HS0 HS1]
  · isplitl [HS0]
    · iexists f0; rw [show sl0.view.set = Finset.univ from View.set_whole cc0_scratch0]; iexact HS0
    · iexists f1; rw [show sl1.view.set = Finset.univ from View.set_whole cc0_scratch1]; iexact HS1
  isplitl [Hg]; · iexact Hg
  isplitl [Hq0 Hq1]
  · isplitl [Hq0]; · iexact Hq0
    iexact Hq1
  iexact Hh

theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) fun b hb => ?_
  rw [show b = main_call0_v0 from Finset.mem_singleton.mp hb]
  simp only [hostOps1, List.mem_cons, List.mem_nil_iff, or_false] at hop
  rcases hop with rfl
  rw [StableHlo.reshape_bufs]
  decide

set_option backward.isDefEq.respectTransparency.types false in
/-- The run of the program. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 cells defs₀ Variants.none cells_facts moved moved_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := A_eq m) (hin := launch_in m) (hout := launch_out m)

end Cert.KernelIdeal.Hand
-- ==== Proof.Value.lean ====
/-
  What the program leaves: its argument as it was, every counter at zero, and the result read off what the points stored.
-/
module

public import proofs.«01_k».proof.Proof.Launch
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Rounds

variable {F : FTy → Type} [FloatOps F]
variable (m : (ℓ : Loc nD τ sig) → Buf (Elt F) ℓ) (ρ : Dev nD → PrngReg)

/-- The result's array after the run: each point's block of eight. -/
def results (c : Dev nD) : IVec S80x1x8 32 :=
  fun j => outAt m c ⟨(j 0).val, (j 0).isLt⟩ (ValueIdx.ix3 0 0 (j 2))

theorem place_out : ∀ t : Fin grid0.N, cc0_transform_2 (grid0.coords t) = ![t.val, 0, 0] := by decide +kernel

theorem arr_out (c : Dev nD) : (dats m 0 c).arrAt 1 cfg0.N = results m c := by
  refine (dats m 0 c).arrAt_eq_of_covers 1 _ (by decide +kernel) fun t hf y => ?_
  blk_simp
  rw [after_out]
  have e := place_out t
  have h0 : (((win0_1.blk t).view.emb y) 0 : ℕ) = t.val := by
    have hy : (y 0).val < 1 := (y 0).isLt
    blk_simp
    exact (congrFun e 0 : win0_1.index t 0 = _)
  have h2 : (((win0_1.blk t).view.emb y) 2 : ℕ) = (y 2).val := by
    blk_simp
    rw [show win0_1.index t 2 = 0 from congrFun e 2]
    omega
  unfold results
  have ht : (⟨(((win0_1.blk t).view.emb y) 0).val, (((win0_1.blk t).view.emb y) 0).isLt⟩ : Fin cfg0.N) = t := Fin.ext h0
  rw [ht]
  refine congrArg (outAt m c t) (funext fun a => ?_)
  match a with
  | ⟨0, _⟩ => exact Fin.ext (by have hy : (y 0).val < 1 := (y 0).isLt; show (y 0).val = 0; omega)
  | ⟨1, _⟩ => exact Fin.ext (by have hy : (y 1).val < 1 := (y 1).isLt; show (y 1).val = 0; omega)
  | ⟨2, _⟩ => exact Fin.ext h2.symm

theorem main_v0_end (c : Dev nD) :
    Pipeline.afterTail₀ cfgs (dats m) 0 (V0 m) [hostOps1] c main_v0 = shapeCast S64x10 (results m c) shapeCasts_S80x1x8_S64x10 := by
  unfold Pipeline.afterTail₀
  simp only [List.flatten_cons, List.flatten_nil, List.append_nil, hostOps1, StableHlo.after_cons, StableHlo.after_nil]
  after_results_step
  have e := Pipeline.withArrays_arr spec0 winFacts0.arr_inj c (V0 m c) (fun w => (dats m 0 c).arrAt w cfg0.N) 1
  exact congrArg (fun X : IVec S80x1x8 32 => shapeCast S64x10 X shapeCasts_S80x1x8_S64x10) (e.trans (arr_out m c))

theorem main_arg0_end (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- The program's end. -/
theorem ends : θ_run defs (onTc (τ := τ) (main (F := F))) ⟨m, fun _ => 0, ρ⟩ (fun r => (∀ c : Dev nD,
      r.2.mem ((c.tc : Thread nD τ).loc main_v0) = shapeCast S64x10 (results m c) shapeCasts_S80x1x8_S64x10
      ∧ r.2.mem ((c.tc : Thread nD τ).loc main_arg0) = m ((c.tc : Thread nD τ).loc main_arg0))
      ∧ r.2.sem = fun _ => 0) :=
  (θ_run defs _ _).mono (fun _ h => ⟨fun c =>
    ⟨((h.1 c).2 main_v0 (Pipeline.mem_restRefs_of main_v0 (by decide) (by decide))).trans (main_v0_end m c),
      ((h.1 c).2 main_arg0 (Pipeline.mem_restRefs_of main_arg0 (by decide) (by decide))).trans (main_arg0_end m c)⟩, h.2⟩) (run_main m ρ)

/-- The program leaves its argument and its counters as it found them. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (ends m ρ)

end Cert.KernelIdeal.Hand
-- ==== Proof.Machine.lean ====
/-
  The kernel's program over the machine's own floats is, name for name, the program over the extended reals: one text,
  whose operations read the float type. Everything proved of that text for an arbitrary float type holds of both.
-/
module

public import proofs.«01_k».proof.Defs
public import proofs.«01_k».proof.Proof.Gen.Kernel
public import proofs.«01_k».proof.Proof.Value

@[expose] public section

set_option maxRecDepth 16384

noncomputable section

namespace Cert.Proof

open Idealize.ShloMosaic Idealize.SL.Sem

/-- The two programs declare the same buffers and semaphores. -/
theorem sig_eq : Cert.Kernel.sig = Cert.KernelIdeal.sig := rfl

/-- Their main functions are the same. -/
theorem main_eq : Cert.Kernel.main (F := Bits) = Cert.KernelIdeal.main (F := Bits) := rfl

/-- The bodies their calls run are the same. -/
theorem defs_eq : Cert.Kernel.defs (F := Bits) = Cert.KernelIdeal.defs (F := Bits) := by
  sl_kernel_rfl

/-- The frame of the machine's program: it terminates without fault, its argument is unchanged and every semaphore
    counter ends at zero. -/
theorem quiescent_Kernel : Cert.quiescent_Kernel (hKernel := Cert.Kernel.Gen.facts) := fun m g _ => by
  show θ_run (Cert.Kernel.defs (F := Bits)) _ _ _
  rw [defs_eq]
  exact Cert.KernelIdeal.Hand.quiescent (F := Bits) m g

/-- The frame of the program over the extended reals. -/
theorem quiescent_KernelIdeal : Cert.quiescent_KernelIdeal (hKernelIdeal := Cert.KernelIdeal.Gen.facts) :=
  fun m g _ => Cert.KernelIdeal.Hand.quiescent (F := Ideal) m g

end Cert.Proof
-- ==== Proof.RefFrame.lean ====
/-
  The reference's frame: its run leaves its argument as it was, and it has no semaphore.
-/
module

public import proofs.«01_k».proof.Defs
public import proofs.«01_k».proof.Proof.Gen.ReferenceIdeal.Run

@[expose] public section

noncomputable section

namespace Cert.Proof

open Idealize.ShloMosaic Idealize.SL.Sem

/-- The reference terminates without fault, its argument is unchanged and every semaphore counter ends at zero. -/
theorem quiescent_ReferenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

end Cert.Proof
-- ==== Proof.First.lean ====
/-
  The first index at which a row of scores attains its maximum, and the two folds that find it: the maximum itself, and
  the least word among those of the entries that attain it.
-/
module

public import Idealize.ShloMosaic.PureOps.Reduce
public import Idealize.ShloMosaic.PureOps.Ideal.Laws

@[expose] public section

noncomputable section

namespace Cert.Draw

open Idealize.ShloMosaic

/-- `k` is the first of the `n` indices at which `s` is greatest. -/
structure First (s : ℕ → EReal) (n k : ℕ) : Prop where
  lt : k < n
  le : ∀ j < n, s j ≤ s k
  before : ∀ j < k, s j < s k

/-- A row that is not empty has such an index. -/
theorem exists_first (s : ℕ → EReal) {n : ℕ} (hn : 0 < n) : ∃ k, First s n k := by
  classical
  have h : ∃ k, k < n ∧ ∀ j < n, s j ≤ s k := by
    obtain ⟨k, hk, h⟩ := Finset.exists_max_image (Finset.range n) s ⟨0, Finset.mem_range.2 hn⟩
    exact ⟨k, Finset.mem_range.1 hk, fun j hj => h j (Finset.mem_range.2 hj)⟩
  refine ⟨Nat.find h, (Nat.find_spec h).1, (Nat.find_spec h).2, fun j hj => ?_⟩
  have hjn : j < n := hj.trans (Nat.find_spec h).1
  refine lt_of_not_ge fun hge => Nat.find_min h hj ⟨hjn, fun i hi => ((Nat.find_spec h).2 i hi).trans hge⟩

/-- A fold of maxima from `-∞` is the value that bounds every entry and is one of them. -/
theorem fold_max {ι : Type} (S : Finset ι) (x : ι → EReal) (b m : EReal) (hb : b = ⊥) (hle : ∀ i ∈ S, x i ≤ m)
    (hm : ∃ i ∈ S, x i = m) : S.fold (FloatOps.maximumf (F := Ideal) (φ := .f32)) b x = m := by
  subst hb
  show S.fold max ⊥ x = m
  obtain ⟨i, hi, e⟩ := hm
  refine le_antisymm (Finset.fold_max_le m |>.2 ⟨bot_le, hle⟩) ?_
  rw [Finset.le_fold_max]
  exact .inr ⟨i, hi, e.ge⟩

/-- The signed minimum of two words, read as integers. -/
theorem toInt_min (x y : BitVec 32) : (IntOp.minsi x y).toInt = min x.toInt y.toInt := by
  unfold IntOp.minsi
  simp only [BitVec.slt, decide_eq_true_eq]
  split_ifs <;> omega

/-- A fold of signed minima is the word that is at most the start and every entry, and is one of the entries. -/
theorem fold_min {ι : Type} (S : Finset ι) (x : ι → BitVec 32) (b w : BitVec 32) (hb : w.toInt ≤ b.toInt)
    (hle : ∀ i ∈ S, w.toInt ≤ (x i).toInt) (hw : ∃ i ∈ S, x i = w) : S.fold IntOp.minsi b x = w := by
  refine BitVec.eq_of_toInt_eq ?_
  rw [← Finset.fold_hom (op' := min) (m := BitVec.toInt) toInt_min]
  obtain ⟨i, hi, e⟩ := hw
  refine le_antisymm ?_ ((Finset.le_fold_min _).2 ⟨hb, hle⟩)
  rw [Finset.fold_min_le]
  exact .inr ⟨i, hi, (congrArg BitVec.toInt e).le⟩

/-- The least word among the entries that attain `m`, the others standing at `d`: it is `w` if an entry that attains `m`
    has the word `w`, and no other such entry has a lesser word. -/
theorem fold_pick {ι : Type} (S : Finset ι) (x : ι → EReal) (t : ι → BitVec 32) (m : EReal) (b d w : BitVec 32)
    (hb : w.toInt ≤ b.toInt) (hd : w.toInt ≤ d.toInt) (hle : ∀ i ∈ S, x i = m → w.toInt ≤ (t i).toInt)
    (hw : ∃ i ∈ S, x i = m ∧ t i = w) :
    S.fold IntOp.minsi b (fun i => Scalar.select (FloatOps.cmpf (F := Ideal) (φ := .f32) .oeq (x i) m) (t i) d) = w := by
  have sel : ∀ i, Scalar.select (FloatOps.cmpf (F := Ideal) (φ := .f32) .oeq (x i) m) (t i) d = if x i = m then t i else d := by
    intro i
    by_cases e : x i = m <;> simp [Scalar.select, Ideal.cmpf_def, Ideal.cmp, e]
  refine fold_min S _ b w hb (fun i hi => ?_) ?_
  · rw [sel]; split_ifs with e
    · exact hle i hi e
    · exact hd
  · obtain ⟨i, hi, e, ew⟩ := hw
    exact ⟨i, hi, by rw [sel, if_pos e, ew]⟩

end Cert.Draw
-- ==== Proof.Lanes.lean ====
/-
  One lane of the running maximum, over the extended reals: what the two registers hold after some scores, and the row's
  answer from the 1024 lanes that deal its columns among them.
-/
module

public import proofs.«01_k».proof.Proof.Chunk
public import proofs.«01_k».proof.Proof.First

@[expose] public section

noncomputable section

namespace Cert.KernelIdeal.Hand

open Cert.KernelIdeal Cert.Draw
open Idealize.ShloMosaic

/-- One lane's registers after the first `n` scores `f` at the words `w`, from `-∞` and the zero word. -/
def lane (f : ℕ → EReal) (w : ℕ → BitVec 32) : ℕ → EReal × BitVec 32
  | 0 => (⊥, 0#32)
  | n + 1 => push (F := Ideal) (f n) (w n) (lane f w n)

/-- One more score, over the extended reals. -/
theorem push_ideal (s : EReal) (t : BitVec 32) (a : EReal × BitVec 32) :
    push (F := Ideal) s t a = (max a.1 s, if a.1 < s then t else a.2) := by
  unfold push
  by_cases h : a.1 < s <;> simp [Scalar.select, Ideal.cmpf_def, Ideal.cmp, h]

/-- The first register bounds every score so far. -/
theorem lane_le (f : ℕ → EReal) (w : ℕ → BitVec 32) (n : ℕ) : ∀ i < n, f i ≤ (lane f w n).1 := by
  induction n with
  | zero => intro i h; omega
  | succ n ih =>
    intro i h
    rw [lane, push_ideal]
    rcases Nat.lt_succ_iff_lt_or_eq.1 h with h | rfl
    · exact (ih i h).trans (le_max_left _ _)
    · exact le_max_right _ _

/-- The first register is `-∞`, or the first score that attains it has the second register's word. -/
theorem lane_word (f : ℕ → EReal) (w : ℕ → BitVec 32) (n : ℕ) :
    (lane f w n).1 = ⊥ ∨ ∃ i < n, f i = (lane f w n).1 ∧ w i = (lane f w n).2 ∧ ∀ j < i, f j < (lane f w n).1 := by
  induction n with
  | zero => exact .inl rfl
  | succ n ih =>
    rw [lane, push_ideal]
    by_cases h : (lane f w n).1 < f n
    · refine .inr ⟨n, Nat.lt_succ_self n, (max_eq_right h.le).symm, (if_pos h).symm, fun j hj => ?_⟩
      exact ((lane_le f w n j hj).trans_lt h).trans_le (le_max_right _ _)
    · have e : max (lane f w n).1 (f n) = (lane f w n).1 := max_eq_left (not_lt.1 h)
      simp only [e, if_neg h]
      rcases ih with ih | ⟨i, hi, h1, h2, h3⟩
      · exact .inl ih
      · exact .inr ⟨i, hi.trans (Nat.lt_succ_self n), h1, h2, h3⟩

/-- A row's scores past its last column: `-∞`. -/
def padded (s : ℕ → EReal) (c : ℕ) : EReal := if c < 100000 then s c else ⊥

/-- Lane `j` of a row: the columns `j`, `1024 + j`, …, 98 of them, and their words. -/
def laneOf (s : ℕ → EReal) (b j : ℕ) : EReal × BitVec 32 :=
  lane (fun n => padded s (1024 * n + j)) (fun n => BitVec.ofNat 32 (b + (1024 * n + j))) 98

theorem laneOf_le {s : ℕ → EReal} {k : ℕ} (h : First s 100000 k) (b j : ℕ) : (laneOf s b j).1 ≤ s k := by
  unfold laneOf
  rcases lane_word (fun n => padded s (1024 * n + j)) (fun n => BitVec.ofNat 32 (b + (1024 * n + j))) 98 with e | ⟨i, _, e, -⟩
  · rw [e]; exact bot_le
  · rw [← e]; dsimp only [padded]; split_ifs with hc
    · exact h.le _ hc
    · exact bot_le

/-- A lane that attains the row's maximum has a word no less than the first column's that does. -/
theorem laneOf_word {s : ℕ → EReal} {k : ℕ} (h : First s 100000 k) (hk : ⊥ < s k) (b j : ℕ) (hb : b < 2000000000)
    (hj : j < 1024) (e : (laneOf s b j).1 = s k) : ∃ c < 100352, k ≤ c ∧ (laneOf s b j).2 = BitVec.ofNat 32 (b + c) := by
  unfold laneOf at e ⊢
  rcases lane_word (fun n => padded s (1024 * n + j)) (fun n => BitVec.ofNat 32 (b + (1024 * n + j))) 98 with e' | ⟨i, hi, e1, e2, -⟩
  · rw [e'] at e; exact absurd e hk.ne
  · refine ⟨1024 * i + j, by omega, ?_, e2.symm⟩
    rw [e] at e1
    refine not_lt.1 fun hlt => ?_
    have hc : 1024 * i + j < 100000 := hlt.trans h.lt
    dsimp only [padded] at e1
    rw [if_pos hc] at e1
    exact (h.before _ hlt).ne e1

/-- The lane of the first column that attains the maximum has that column's word. -/
theorem laneOf_first {s : ℕ → EReal} {k : ℕ} (h : First s 100000 k) (hk : ⊥ < s k) (b : ℕ) :
    laneOf s b (k % 1024) = (s k, BitVec.ofNat 32 (b + k)) := by
  have hlt := h.lt
  have hkk : 1024 * (k / 1024) + k % 1024 = k := Nat.div_add_mod k 1024
  have hle := laneOf_le h b (k % 1024)
  unfold laneOf at hle ⊢
  have hge := lane_le (fun n => padded s (1024 * n + k % 1024)) (fun n => BitVec.ofNat 32 (b + (1024 * n + k % 1024))) 98
    (k / 1024) (by omega)
  dsimp only [padded] at hge
  rw [hkk, if_pos hlt] at hge
  have e := le_antisymm hle hge
  rcases lane_word (fun n => padded s (1024 * n + k % 1024)) (fun n => BitVec.ofNat 32 (b + (1024 * n + k % 1024))) 98 with e' | ⟨i, hi, e1, e2, e3⟩
  · rw [e'] at e; exact absurd e hk.ne
  · rw [e] at e1 e3
    have hik : i = k / 1024 := by
      refine le_antisymm (not_lt.1 fun hl => ?_) (not_lt.1 fun hl => ?_)
      · have := e3 _ hl
        dsimp only [padded] at this
        rw [hkk, if_pos hlt] at this
        exact this.false
      · have hc : 1024 * i + k % 1024 < k := by omega
        dsimp only [padded] at e1
        rw [if_pos (hc.trans hlt)] at e1
        exact (h.before _ hc).ne e1
    refine Prod.ext e (e2.symm.trans ?_)
    dsimp only
    rw [hik, hkk]

end Cert.KernelIdeal.Hand
-- ==== Proof.Registers.lean ====
/-
  The registers after a block's chunks, over the extended reals: lane by lane, the lane of the row's scores.
-/
module

public import proofs.«01_k».proof.Proof.Body
public import proofs.«01_k».proof.Proof.Lanes

@[expose] public section

noncomputable section

namespace Cert.KernelIdeal.Hand

open Cert.KernelIdeal Cert.KernelIdeal.Gen Cert.Draw
open Idealize.ShloMosaic Idealize.ShloMosaic.ValueIdx

/-- The score of column `c` of row `r` of the 640 × 100000 weights. -/
def rowScore (V : FVec Ideal S640x100000 .f32) (r c : ℕ) : EReal :=
  score (F := Ideal) (V (ix2 ⟨r % 640, Nat.mod_lt _ (by decide)⟩ ⟨c % 100000, Nat.mod_lt _ (by decide)⟩))
    (BitVec.ofNat 32 (r * 100000 + 42 + c))

/-- The word of a lane's first column. -/
theorem word_apply (g : grid0.Coords) (x : S8x1024.Idx) :
    k0_pay236 g x = BitVec.ofNat 32 ((8 * (g 0).val + (x 0).val) * 100000 + 42 + (x 1).val) := by
  have e : k0_pay236 g x = ((BitVec.ofNat 32 (0 * 8 + (x 0).val) + BitVec.ofNat 32 (g 0).val * BitVec.ofNat 32 8)
      * BitVec.ofNat 32 100000 + BitVec.ofNat 32 (0 * 1024 + (x 1).val)) + BitVec.ofNat 32 42 := rfl
  rw [e, ← BitVec.ofNat_mul, ← BitVec.ofNat_add, ← BitVec.ofNat_mul, ← BitVec.ofNat_add, ← BitVec.ofNat_add]
  exact congrArg _ (by ring)

/-- The word of a lane's column in a later chunk. -/
theorem word_add (g : grid0.Coords) (x : S8x1024.Idx) (n : ℕ) :
    IntOp.addi (k0_pay236 g x) (BitVec.ofNat 32 n)
      = BitVec.ofNat 32 ((8 * (g 0).val + (x 0).val) * 100000 + 42 + (n + (x 1).val)) := by
  rw [word_apply]
  show _ + _ = _
  rw [← BitVec.ofNat_add]
  exact congrArg _ (by ring)

/-- Two lanes whose scores and words agree hold the same. -/
theorem lane_congr {f f' : ℕ → EReal} {w w' : ℕ → BitVec 32} (n : ℕ) (hf : ∀ i < n, f i = f' i) (hw : ∀ i < n, w i = w' i) :
    lane f w n = lane f' w' n := by
  induction n with
  | zero => rfl
  | succ n ih =>
    rw [lane, lane, hf n (Nat.lt_succ_self n), hw n (Nat.lt_succ_self n),
      ih (fun i h => hf i (h.trans (Nat.lt_succ_self n))) fun i h => hw i (h.trans (Nat.lt_succ_self n))]

/-- The chunks of a slot, lane by lane. -/
theorem runs_lane (v9 : IVec S8x1024 32) (X : FVec Ideal S8x100000 .f32) (x : S8x1024.Idx) (n : ℕ) :
    ((runs v9 X (k0_pay237, k0_pay238) n).1 x, (runs v9 X (k0_pay237, k0_pay238) n).2 x)
      = lane (fun n => score (F := Ideal) (cols X (1024 * n) x) (IntOp.addi (v9 x) (BitVec.ofNat 32 (1024 * n))))
          (fun n => IntOp.addi (v9 x) (BitVec.ofNat 32 (1024 * n))) n := by
  induction n with
  | zero =>
    refine Prod.ext ?_ rfl
    show Scalar.ofBits (F := Ideal) .f32 0xFF800000#32 = ⊥
    simp [Ideal.ofBits, Ideal.ieee]
  | succ n ih => rw [lane, ← ih]; rfl

/-- The registers after a block's last chunk. -/
def regs (g : grid0.Coords) (X : FVec Ideal S8x100000 .f32) (w : FVec Ideal S8x1024 .f32) :
    FVec Ideal S8x1024 .f32 × IVec S8x1024 32 :=
  lastChunk (k0_pay236 g) w (chunk (k0_pay236 g) 98304#32 (cols X 98304)
    (runs (k0_pay236 g) X (k0_pay237, k0_pay238) (2 * k0_t1_loop.trips)))

/-- A chunk's score is the row's score of its column. -/
theorem score_cols (V : FVec Ideal S640x100000 .f32) (g : grid0.Coords) (x : S8x1024.Idx) (a : ℕ) (ha : a + (x 1).val < 100000) :
    score (F := Ideal) (cols (blkAt V (g 0).val) a x) (IntOp.addi (k0_pay236 g x) (BitVec.ofNat 32 a))
      = padded (rowScore V (8 * (g 0).val + (x 0).val)) (a + (x 1).val) := by
  rw [padded, if_pos ha, word_add]
  rfl

/-- The last chunk's score is the row's score of its column, `-∞` past the last column. -/
theorem score_last (V : FVec Ideal S640x100000 .f32) (g : grid0.Coords) (w : FVec Ideal S8x1024 .f32) (x : S8x1024.Idx)
    (hw : (x 1).val < 672 → w x = V (ix2 ⟨(8 * (g 0).val + (x 0).val) % 640, Nat.mod_lt _ (by decide)⟩
      ⟨(99328 + (x 1).val) % 100000, Nat.mod_lt _ (by decide)⟩)) :
    lastScore (F := Ideal) (k0_pay236 g) w x = padded (rowScore V (8 * (g 0).val + (x 0).val)) (99328 + (x 1).val) := by
  have hx : (x 1).val < 1024 := (x 1).isLt
  have e : lastScore (F := Ideal) (k0_pay236 g) w x
      = Scalar.select (IntOp.cmpi .slt (BitVec.ofNat 32 (0 * 1024 + (x 1).val)) 672#32)
        (score (F := Ideal) (w x) (IntOp.addi (k0_pay236 g x) 99328#32)) (Scalar.ofBits (F := Ideal) .f32 0xFF800000#32) := rfl
  have hc : IntOp.cmpi .slt (BitVec.ofNat 32 (0 * 1024 + (x 1).val)) 672#32 = BitVec.ofBool (decide ((x 1).val < 672)) := by
    show BitVec.ofBool (BitVec.slt _ _) = _
    rw [BitVec.slt, BitVec.toInt_eq_toNat_of_lt (by rw [BitVec.toNat_ofNat]; omega), BitVec.toNat_ofNat,
      Nat.mod_eq_of_lt (by omega), zero_mul, zero_add]
    congr 1
    rw [show (672#32 : BitVec 32).toInt = ((672 : ℕ) : ℤ) from rfl, decide_eq_decide]
    exact Int.ofNat_lt
  rw [e, hc, padded, word_add]
  by_cases h : (x 1).val < 672
  · rw [if_pos (by omega), decide_eq_true h, hw h]
    rfl
  · rw [if_neg (by omega), decide_eq_false h]
    show Scalar.ofBits (F := Ideal) .f32 0xFF800000#32 = ⊥
    simp [Ideal.ofBits, Ideal.ieee]

/-- Lane by lane, the registers after a block are the lane of the row's scores. -/
theorem regs_lane (V : FVec Ideal S640x100000 .f32) (g : grid0.Coords) (w : FVec Ideal S8x1024 .f32)
    (hw : ∀ x : S8x1024.Idx, (x 1).val < 672 → w x = V (ix2 ⟨(8 * (g 0).val + (x 0).val) % 640, Nat.mod_lt _ (by decide)⟩
      ⟨(99328 + (x 1).val) % 100000, Nat.mod_lt _ (by decide)⟩)) (x : S8x1024.Idx) :
    ((regs g (blkAt V (g 0).val) w).1 x, (regs g (blkAt V (g 0).val) w).2 x)
      = laneOf (rowScore V (8 * (g 0).val + (x 0).val)) ((8 * (g 0).val + (x 0).val) * 100000 + 42) (x 1).val := by
  have hx : (x 1).val < 1024 := (x 1).isLt
  have h96 : 2 * k0_t1_loop.trips = 96 := by decide +kernel
  have hr := runs_lane (k0_pay236 g) (blkAt V (g 0).val) x (2 * k0_t1_loop.trips)
  have e : ((regs g (blkAt V (g 0).val) w).1 x, (regs g (blkAt V (g 0).val) w).2 x)
      = push (lastScore (F := Ideal) (k0_pay236 g) w x) (IntOp.addi (k0_pay236 g x) (BitVec.ofNat 32 99328))
        (push (score (F := Ideal) (cols (blkAt V (g 0).val) 98304 x) (IntOp.addi (k0_pay236 g x) (BitVec.ofNat 32 98304)))
          (IntOp.addi (k0_pay236 g x) (BitVec.ofNat 32 98304))
          ((runs (k0_pay236 g) (blkAt V (g 0).val) (k0_pay237, k0_pay238) (2 * k0_t1_loop.trips)).1 x,
           (runs (k0_pay236 g) (blkAt V (g 0).val) (k0_pay237, k0_pay238) (2 * k0_t1_loop.trips)).2 x)) := rfl
  rw [e, hr, score_last V g w x (hw x), score_cols V g x 98304 (by omega), word_add, word_add, h96,
    lane_congr (f' := fun n => padded (rowScore V (8 * (g 0).val + (x 0).val)) (1024 * n + (x 1).val))
      (w' := fun n => BitVec.ofNat 32 ((8 * (g 0).val + (x 0).val) * 100000 + 42 + (1024 * n + (x 1).val))) 96
      (fun i hi => score_cols V g x (1024 * i) (by omega)) (fun i _ => word_add g x (1024 * i))]
  rfl

end Cert.KernelIdeal.Hand
-- ==== Proof.Block.lean ====
/-
  A block's results, over the extended reals: for each of its rows, the first column that attains the row's maximum.
-/
module

public import proofs.«01_k».proof.Proof.Registers
public import Idealize.ShloMosaic.Lib.Pipeline.Value

@[expose] public section

noncomputable section

namespace Cert.KernelIdeal.Hand

open Cert.KernelIdeal Cert.KernelIdeal.Gen Cert.Draw
open Idealize.ShloMosaic Idealize.ShloMosaic.ValueIdx

/-- A small word read as an integer. -/
theorem toInt_ofNat {n : ℕ} (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- The entries a row's reduction folds over are those of the row. -/
theorem mem_row (r : S8.Idx) (x : S8x1024.Idx) :
    (x ∈ Finset.univ.filter fun i : S8x1024.Idx => reduces_S8x1024_S8.drop i = r) ↔ (x 0).val = (r 0).val := by
  simp [funext_iff, Fin.ext_iff, Fin.forall_fin_one, reduces_S8x1024_S8.drop_apply_val_of_eq x 0 0]

/-- A row's maximum. -/
theorem rowMax_apply (m : FVec Ideal S8x1024 .f32) (r : S8.Idx) (M : EReal) (hle : ∀ x : S8x1024.Idx, (x 0).val = (r 0).val → m x ≤ M)
    (hm : ∃ x : S8x1024.Idx, (x 0).val = (r 0).val ∧ m x = M) : rowMax (F := Ideal) m r = M := by
  unfold rowMax
  refine (multiReduction_maximumf_eq_fold _ _ _ _ _ _).trans ?_
  refine fold_max _ m _ M ?_ (fun x hx => hle x ((mem_row r x).1 hx)) ?_
  · show Scalar.ofBits (F := Ideal) .f32 0xFF800000#32 = ⊥
    simp [Ideal.ofBits, Ideal.ieee]
  · obtain ⟨x, h1, h2⟩ := hm
    exact ⟨x, (mem_row r x).2 h1, h2⟩

/-- The row maxima spread over the lanes. -/
theorem spread_apply (v : FVec Ideal S8 .f32) (x : S8x1024.Idx) :
    broadcastTo S8x1024 (shapeCast S8x1 v shapeCasts_S8_S8x1) broadcasts_S8x1_S8x1024 x = v (ix1 (x 0)) := by
  refine (broadcastTo_apply _ _ x (ix2 (x 0) 0 : S8x1.Idx) (by intro a; fin_cases a <;> rfl)).trans ?_
  exact shapeCast_apply _ _ _ _ (by rw [Shape.rowMajor_val_one, Shape.rowMajor_val_two]; simp)

/-- A row's least word among the lanes that attain the maximum. -/
theorem rowWord_apply (a : FVec Ideal S8x1024 .f32 × IVec S8x1024 32) (r : S8.Idx) (M : EReal) (W : ℕ) (hW : W < 2147483648)
    (hle : ∀ x : S8x1024.Idx, (x 0).val = (r 0).val → a.1 x ≤ M)
    (hwo : ∀ x : S8x1024.Idx, (x 0).val = (r 0).val → a.1 x = M → ∃ W' < 2147483648, W ≤ W' ∧ a.2 x = BitVec.ofNat 32 W')
    (hm : ∃ x : S8x1024.Idx, (x 0).val = (r 0).val ∧ a.1 x = M ∧ a.2 x = BitVec.ofNat 32 W) :
    rowWord (F := Ideal) a r = BitVec.ofNat 32 W := by
  have hM : rowMax (F := Ideal) a.1 r = M := by
    obtain ⟨x, h1, h2, -⟩ := hm
    exact rowMax_apply a.1 r M hle ⟨x, h1, h2⟩
  have htop : (BitVec.ofNat 32 W).toInt ≤ (2147483647#32 : BitVec 32).toInt := by
    rw [toInt_ofNat hW, show (2147483647#32 : BitVec 32).toInt = 2147483647 from rfl]; omega
  unfold rowWord
  refine (multiReductionI_eq_fold _ _ _ _ _ _).trans ?_
  refine Eq.trans (Finset.fold_congr (g := fun x => Scalar.select (FloatOps.cmpf (F := Ideal) (φ := .f32) .oeq (a.1 x) M) (a.2 x) 2147483647#32)
    fun x hx => ?_) (fold_pick _ a.1 a.2 M _ 2147483647#32 (BitVec.ofNat 32 W) htop htop (fun x hx e => ?_) ?_)
  · have hx0 : (ix1 (x 0) : S8.Idx) = r := by
      funext b; obtain rfl : b = 0 := Subsingleton.elim _ _
      exact Fin.ext ((mem_row r x).1 hx)
    show Scalar.select (FloatOps.cmpf (F := Ideal) (φ := .f32) .oeq (a.1 x)
      (broadcastTo S8x1024 (shapeCast S8x1 (rowMax a.1) shapeCasts_S8_S8x1) broadcasts_S8x1_S8x1024 x)) (a.2 x) 2147483647#32 = _
    rw [spread_apply]
    have e := (congrArg (rowMax (F := Ideal) a.1) hx0).trans hM
    exact congrArg (fun y => Scalar.select (FloatOps.cmpf (F := Ideal) (φ := .f32) .oeq (a.1 x) y) (a.2 x) 2147483647#32) e
  · obtain ⟨W', h1, h2, h3⟩ := hwo x ((mem_row r x).1 hx) e
    rw [h3, toInt_ofNat hW, toInt_ofNat h1]
    exact_mod_cast h2
  · obtain ⟨x, h1, h2⟩ := hm
    exact ⟨x, (mem_row r x).2 h1, h2⟩

/-- The block's result of a row: its word less the word of its first column. -/
theorem pick_apply (n : ℕ) (a : FVec Ideal S8x1024 .f32 × IVec S8x1024 32) (r : Fin 8) (W : ℕ)
    (h : rowWord (F := Ideal) a (ix1 r) = BitVec.ofNat 32 ((8 * n + r.val) * 100000 + 42 + W)) :
    pick (F := Ideal) (BitVec.ofNat 32 n) a (ix3 0 0 r) = BitVec.ofNat 32 W := by
  unfold pick
  rw [shapeCast_apply _ _ _ (ix1 r) (by rw [Shape.rowMajor_val_one, Shape.rowMajor_val_three]; simp),
    shapeCast_apply _ _ _ (ix2 r 0) (by rw [Shape.rowMajor_val_one, Shape.rowMajor_val_two]; simp)]
  have e : rowBase (BitVec.ofNat 32 n) (ix2 r 0) = (BitVec.ofNat 32 (0 * 8 + r.val) + BitVec.ofNat 32 n * BitVec.ofNat 32 8)
      * BitVec.ofNat 32 100000 + BitVec.ofNat 32 42 := rfl
  show shapeCast S8x1 (rowWord a) shapeCasts_S8_S8x1 (ix2 r 0) - rowBase (BitVec.ofNat 32 n) (ix2 r 0) = _
  rw [shapeCast_apply _ _ _ (ix1 r) (by rw [Shape.rowMajor_val_one, Shape.rowMajor_val_two]; simp), h, e,
    ← BitVec.ofNat_mul, ← BitVec.ofNat_add, ← BitVec.ofNat_mul, ← BitVec.ofNat_add,
    show (0 * 8 + r.val + n * 8) * 100000 + 42 = (8 * n + r.val) * 100000 + 42 by ring, BitVec.ofNat_add _ W,
    BitVec.add_comm, BitVec.add_sub_cancel]

/-- A block's result of a row whose maximum is above `-∞`: the first column that attains it. -/
theorem outBlock_apply (V : FVec Ideal S640x100000 .f32) (g : grid0.Coords) (w : FVec Ideal S8x1024 .f32)
    (hw : ∀ x : S8x1024.Idx, (x 1).val < 672 → w x = V (ix2 ⟨(8 * (g 0).val + (x 0).val) % 640, Nat.mod_lt _ (by decide)⟩
      ⟨(99328 + (x 1).val) % 100000, Nat.mod_lt _ (by decide)⟩)) (r : Fin 8) (k : ℕ)
    (hf : First (rowScore V (8 * (g 0).val + r.val)) 100000 k) (hk : ⊥ < rowScore V (8 * (g 0).val + r.val) k) :
    outBlock (F := Ideal) g (blkAt V (g 0).val) w (ix3 0 0 r) = BitVec.ofNat 32 k := by
  have hg : (g 0).val < 80 := (g 0).isLt
  have hr : r.val < 8 := r.isLt
  have hkl := hf.lt
  refine pick_apply (g 0).val (regs g (blkAt V (g 0).val) w) r k ?_
  have hl : ∀ x : S8x1024.Idx, (x 0).val = r.val → ((regs g (blkAt V (g 0).val) w).1 x, (regs g (blkAt V (g 0).val) w).2 x)
      = laneOf (rowScore V (8 * (g 0).val + r.val)) ((8 * (g 0).val + r.val) * 100000 + 42) (x 1).val := by
    intro x hx; rw [regs_lane V g w hw x, hx]
  refine rowWord_apply _ (ix1 r) (rowScore V (8 * (g 0).val + r.val) k) _ (by omega) (fun x hx => ?_) (fun x hx e => ?_) ?_
  · have := laneOf_le hf ((8 * (g 0).val + r.val) * 100000 + 42) (x 1).val
    rwa [← hl x hx] at this
  · have := laneOf_word hf hk ((8 * (g 0).val + r.val) * 100000 + 42) (x 1).val (by omega) (x 1).isLt (by rw [← hl x hx]; exact e)
    rw [← hl x hx] at this
    obtain ⟨c, h1, h2, h3⟩ := this
    exact ⟨_, by omega, by omega, h3⟩
  · refine ⟨ix2 r ⟨k % 1024, Nat.mod_lt _ (by decide)⟩, rfl, ?_⟩
    have h1 := hl (ix2 r ⟨k % 1024, Nat.mod_lt _ (by decide)⟩) rfl
    have h2 := laneOf_first hf hk ((8 * (g 0).val + r.val) * 100000 + 42)
    exact ⟨congrArg Prod.fst (h1.trans h2), congrArg Prod.snd (h1.trans h2)⟩

end Cert.KernelIdeal.Hand
-- ==== Proof.Entry.lean ====
/-
  What the kernel's call finds: the weights as 640 rows, and each row's last 672 columns padded to a chunk; and from these
  the kernel's result, over the extended reals.
-/
module

public import proofs.«01_k».proof.Proof.Block
public import proofs.«01_k».proof.Proof.Value
public import Idealize.ShloMosaic.Lib.KernelVsHost

@[expose] public section

set_option maxRecDepth 16384

noncomputable section

namespace Cert.KernelIdeal.Hand

open Cert.KernelIdeal Cert.KernelIdeal.Gen Cert.Draw
open Idealize.ShloMosaic Idealize.ShloMosaic.TcCoe Idealize.ShloMosaic.Tactic Idealize.ShloMosaic.ValueIdx
open Idealize.SL Idealize.SL.Sem

section generic

variable {F : FTy → Type} [FloatOps F]
variable (m : (ℓ : Loc nD τ sig) → Buf (Elt F) ℓ)

/-- The weights as 640 rows. -/
def flat (x : FVec F S64x10x100000 .f32) : FVec F S640x100000 .f32 :=
  shapeCast S640x100000 x shapeCasts_S64x10x100000_S640x100000

/-- Each row's last columns, padded. -/
def tail (x : FVec F S64x10x100000 .f32) : FVec F S640x1024 .f32 :=
  pad S640x1024 ![0, 0] ![0, 352] ![0, 0] (extractStridedSlice S640x672 ![0, 99328] (flat x) slices_S640x100000_S640x672_0_99328)
    (sitofp .f32 (constantI S_ 32 0#32)) pads_S640x672_S640x1024_000_03520 h_S_

theorem V_flat (c : Dev nD) : V m c main_call0_v0 = flat (m ((c : Thread nD τ).loc main_arg0)) := by
  simp only [V, V0, hostOps0, List.flatten_cons, List.flatten_nil, List.append_nil, StableHlo.after_cons, StableHlo.after_nil]
  after_results_step
  rfl

theorem V_tail (c : Dev nD) : V m c main_call0_v2 = tail (m ((c : Thread nD τ).loc main_arg0)) := by
  simp only [V, V0, hostOps0, List.flatten_cons, List.flatten_nil, List.append_nil, StableHlo.after_cons, StableHlo.after_nil]
  after_results_step
  rfl

theorem flat_apply (x : FVec F S64x10x100000 .f32) (b : Fin 64) (k : Fin 10) (c : Fin 100000) :
    flat x (ValueIdx.ix2 ⟨b.val * 10 + k.val, by omega⟩ c) = x (ValueIdx.ix3 b k c) :=
  shapeCast_apply _ _ _ _ (by
    rw [Shape.rowMajor_val_two, Shape.rowMajor_val_three]
    rfl)

theorem tail_apply (x : FVec F S64x10x100000 .f32) (r : Fin 640) (j : Fin 1024) (hj : j.val < 672) :
    tail x (ValueIdx.ix2 r j) = flat x (ValueIdx.ix2 r ⟨99328 + j.val, by omega⟩) := by
  unfold tail
  refine (pad_apply_of_inside _ _ _ _ _ _ _ (ValueIdx.ix2 r j) (ValueIdx.ix2 r ⟨j.val, hj⟩ : S640x672.Idx) (by
    intro a; fin_cases a
    · show r.val = 0 + r.val * (0 + 1); omega
    · show j.val = 0 + j.val * (0 + 1); omega)).trans ?_
  exact extractStridedSlice_apply _ _ _ _ _ (by
    intro a; fin_cases a
    · show r.val = 0 + r.val; omega
    · show 99328 + j.val = 99328 + j.val; rfl)

theorem place_in : ∀ t : Fin grid0.N, cc0_transform_1 (grid0.coords t) = ![t.val, 0] := by decide +kernel

/-- The block of last columns a point finds. -/
theorem iblk_apply (c : Dev nD) (t : Fin cfg0.N) (x : S8x1024.Idx) (hx : (x 1).val < 672) :
    iblk m c 0 t x = flat (m ((c : Thread nD τ).loc main_arg0))
      (ValueIdx.ix2 ⟨(8 * t.val + (x 0).val) % 640, Nat.mod_lt _ (by decide)⟩ ⟨(99328 + (x 1).val) % 100000, Nat.mod_lt _ (by decide)⟩) := by
  have ht : t.val < 80 := t.isLt
  have h0 : (x 0).val < 8 := (x 0).isLt
  have e := place_in t
  have h1 : (x 1).val < 1024 := (x 1).isLt
  have e1 : iblk m c 0 t x = V m c main_call0_v2 (ValueIdx.ix2 ⟨8 * t.val + (x 0).val, by omega⟩ ⟨(x 1).val, h1⟩) := by
    unfold iblk
    show V m c main_call0_v2 (((win0_0.blk t).view.emb x)) = _
    refine congrArg (V m c main_call0_v2) (funext fun a => ?_)
    match a with
    | ⟨0, _⟩ =>
      refine Fin.ext ?_
      show (((win0_0.blk t).view.emb x) 0 : ℕ) = 8 * t.val + (x 0).val
      blk_simp
      rw [show win0_0.index t 0 = t.val from congrFun e 0]
      omega
    | ⟨1, _⟩ =>
      refine Fin.ext ?_
      show (((win0_0.blk t).view.emb x) 1 : ℕ) = (x 1).val
      blk_simp
      rw [show win0_0.index t 1 = 0 from congrFun e 1]
      omega
  rw [e1, V_tail]
  refine (tail_apply _ _ ⟨(x 1).val, h1⟩ hx).trans ?_
  refine congrArg (flat _) (congrArg₂ ValueIdx.ix2 (Fin.ext ?_) (Fin.ext ?_))
  · show 8 * t.val + (x 0).val = (8 * t.val + (x 0).val) % 640; omega
  · show 99328 + (x 1).val = (99328 + (x 1).val) % 100000; omega

end generic

/-- The kernel's result at batch `b` and sample `k`: the first column that attains the row's maximum, when that is above `-∞`. -/
theorem result_apply (m : (ℓ : Loc nD τ sig) → Buf (Elt Ideal) ℓ) (c : Dev nD) (b : Fin 64) (k : Fin 10) (w : ℕ)
    (hf : First (rowScore (flat (m ((c : Thread nD τ).loc main_arg0))) (b.val * 10 + k.val)) 100000 w)
    (hw : ⊥ < rowScore (flat (m ((c : Thread nD τ).loc main_arg0))) (b.val * 10 + k.val) w) :
    shapeCast S64x10 (results m c) shapeCasts_S80x1x8_S64x10 (ValueIdx.ix2 b k) = BitVec.ofNat 32 w := by
  have hb := b.isLt
  have hk := k.isLt
  obtain ⟨t, r, e⟩ : ∃ (t : Fin 80) (r : Fin 8), 8 * t.val + r.val = b.val * 10 + k.val :=
    ⟨⟨(b.val * 10 + k.val) / 8, by omega⟩, ⟨(b.val * 10 + k.val) % 8, by omega⟩, by dsimp only; omega⟩
  rw [shapeCast_apply _ _ _ (ValueIdx.ix3 t 0 r) (by
    rw [Shape.rowMajor_val_two, Shape.rowMajor_val_three]
    show (t.val * 1 + 0) * 8 + r.val = b.val * 10 + k.val
    omega)]
  show outAt m c t (ValueIdx.ix3 0 0 r) = _
  unfold outAt
  have ht : ((grid0.coords t) 0).val = t.val := coords_val t
  rw [V_flat]
  rw [← e] at hf hw
  have := outBlock_apply (flat (m ((c : Thread nD τ).loc main_arg0))) (grid0.coords t) (iblk m c 0 t)
    (fun x hx => by rw [iblk_apply m c t x hx]; simp only [ht]) r w (by rw [ht]; exact hf) (by rw [ht]; exact hw)
  rwa [ht] at this

end Cert.KernelIdeal.Hand
-- ==== Proof.Draws.lean ====
/-
  The reference's scores: the words it draws from are the kernel's, so its score of an element is the kernel's score of that
  element's weight at that element's word.
-/
module

public import proofs.«01_k».proof.Proof.Chunk
public import proofs.«01_k».proof.Proof.Gen.ReferenceIdeal.Read
public import Idealize.ShloMosaic.PureOps.Ideal.Laws

@[expose] public section

noncomputable section

namespace Cert.ReferenceIdeal.Hand

open Cert.ReferenceIdeal Cert.ReferenceIdeal.Gen Cert.ReferenceIdeal.Read
open Cert.KernelIdeal.Hand (rot mix inject roundsA roundsA' roundsB groups bits draw score)
open Idealize.ShloMosaic

variable {F : FTy → Type} [FloatOps F]

/-- A rotation by shifts short of the word's width is the same on either side. -/
theorem rot_host (r s x : BitVec 32) (hr : r.toNat < 32) (hs : s.toNat < 32) :
    IntOp.ori (IntOp.shli .host x r) (IntOp.shrui .host x s) = rot r s x := by
  unfold rot IntOp.shli IntOp.shrui
  rw [if_pos hr, if_pos hr, if_pos hs, if_pos hs]

/-- A round as the reference writes it. -/
theorem mix_host (r s : BitVec 32) (hr : r.toNat < 32) (hs : s.toNat < 32) (a b : BitVec 32) :
    (IntOp.addi a b, IntOp.xori (IntOp.addi a b) (IntOp.ori (IntOp.shli .host b r) (IntOp.shrui .host b s))) = mix r s (a, b) := by
  rw [rot_host r s b hr hs]; rfl

/-- The key words as the reference adds them. -/
theorem inject_host (a b x y p q : BitVec 32) (hx : x = a) (hy : y = b) :
    (IntOp.addi p x, IntOp.addi q y) = inject a b (p, q) := by
  subst hx hy; rfl

/-! ## The rounds, in order -/

theorem round_32 (i : S64x10x100000.Idx) : (val_main_v26 (F := F) i, val_main_v32 (F := F) i)
    = mix 15#32 17#32 (val_main_v19 (F := F) i, val_main_v25 (F := F) i) := by
  rw [val_main_v32_apply, val_main_v26_apply, val_main_v31_apply, val_main_v28_apply, val_main_v27_apply,
    val_main_c_9_apply, val_main_v30_apply, val_main_v29_apply, val_main_c_10_apply]
  exact mix_host _ _ (by decide) (by decide) _ _

theorem round_39 (i : S64x10x100000.Idx) : (val_main_v33 (F := F) i, val_main_v39 (F := F) i)
    = mix 26#32 6#32 (val_main_v26 (F := F) i, val_main_v32 (F := F) i) := by
  rw [val_main_v39_apply, val_main_v33_apply, val_main_v38_apply, val_main_v35_apply, val_main_v34_apply,
    val_main_c_11_apply, val_main_v37_apply, val_main_v36_apply, val_main_c_12_apply]
  exact mix_host _ _ (by decide) (by decide) _ _

theorem round_46 (i : S64x10x100000.Idx) : (val_main_v40 (F := F) i, val_main_v46 (F := F) i)
    = mix 6#32 26#32 (val_main_v33 (F := F) i, val_main_v39 (F := F) i) := by
  rw [val_main_v46_apply, val_main_v40_apply, val_main_v45_apply, val_main_v42_apply, val_main_v41_apply,
    val_main_c_13_apply, val_main_v44_apply, val_main_v43_apply, val_main_c_14_apply]
  exact mix_host _ _ (by decide) (by decide) _ _

theorem keys_51 (i : S64x10x100000.Idx) : (val_main_v48 (F := F) i, val_main_v51 (F := F) i)
    = inject 42#32 466689009#32 (val_main_v40 (F := F) i, val_main_v46 (F := F) i) := by
  rw [val_main_v48_apply, val_main_v47_apply, val_main_c_15_apply, val_main_v51_apply, val_main_v50_apply,
    val_main_v49_apply, val_main_v14_apply, val_main_v13_apply, val_main_c_2_apply, val_main_c_3_apply, val_main_c_4_apply,
    val_main_c_16_apply]
  exact inject_host _ _ _ _ _ _ (by decide) (by decide)

theorem round_58 (i : S64x10x100000.Idx) : (val_main_v52 (F := F) i, val_main_v58 (F := F) i)
    = mix 17#32 15#32 (val_main_v48 (F := F) i, val_main_v51 (F := F) i) := by
  rw [val_main_v58_apply, val_main_v52_apply, val_main_v57_apply, val_main_v54_apply, val_main_v53_apply,
    val_main_c_17_apply, val_main_v56_apply, val_main_v55_apply, val_main_c_18_apply]
  exact mix_host _ _ (by decide) (by decide) _ _

theorem round_65 (i : S64x10x100000.Idx) : (val_main_v59 (F := F) i, val_main_v65 (F := F) i)
    = mix 29#32 3#32 (val_main_v52 (F := F) i, val_main_v58 (F := F) i) := by
  rw [val_main_v65_apply, val_main_v59_apply, val_main_v64_apply, val_main_v61_apply, val_main_v60_apply,
    val_main_c_19_apply, val_main_v63_apply, val_main_v62_apply, val_main_c_20_apply]
  exact mix_host _ _ (by decide) (by decide) _ _

theorem round_72 (i : S64x10x100000.Idx) : (val_main_v66 (F := F) i, val_main_v72 (F := F) i)
    = mix 16#32 16#32 (val_main_v59 (F := F) i, val_main_v65 (F := F) i) := by
  rw [val_main_v72_apply, val_main_v66_apply, val_main_v71_apply, val_main_v68_apply, val_main_v67_apply,
    val_main_c_21_apply, val_main_v70_apply, val_main_v69_apply, val_main_c_22_apply]
  exact mix_host _ _ (by decide) (by decide) _ _

theorem round_79 (i : S64x10x100000.Idx) : (val_main_v73 (F := F) i, val_main_v79 (F := F) i)
    = mix 24#32 8#32 (val_main_v66 (F := F) i, val_main_v72 (F := F) i) := by
  rw [val_main_v79_apply, val_main_v73_apply, val_main_v78_apply, val_main_v75_apply, val_main_v74_apply,
    val_main_c_23_apply, val_main_v77_apply, val_main_v76_apply, val_main_c_24_apply]
  exact mix_host _ _ (by decide) (by decide) _ _

theorem keys_84 (i : S64x10x100000.Idx) : (val_main_v81 (F := F) i, val_main_v84 (F := F) i)
    = inject 466689008#32 2#32 (val_main_v73 (F := F) i, val_main_v79 (F := F) i) := by
  rw [val_main_v81_apply, val_main_v80_apply, val_main_v14_apply, val_main_v13_apply, val_main_c_2_apply,
    val_main_c_3_apply, val_main_c_4_apply, val_main_v84_apply, val_main_v83_apply, val_main_v82_apply, val_main_c_25_apply,
    val_main_c_26_apply]
  exact inject_host _ _ _ _ _ _ (by decide) (by decide)

theorem round_91 (i : S64x10x100000.Idx) : (val_main_v85 (F := F) i, val_main_v91 (F := F) i)
    = mix 13#32 19#32 (val_main_v81 (F := F) i, val_main_v84 (F := F) i) := by
  rw [val_main_v91_apply, val_main_v85_apply, val_main_v90_apply, val_main_v87_apply, val_main_v86_apply,
    val_main_c_27_apply, val_main_v89_apply, val_main_v88_apply, val_main_c_28_apply]
  exact mix_host _ _ (by decide) (by decide) _ _

theorem round_98 (i : S64x10x100000.Idx) : (val_main_v92 (F := F) i, val_main_v98 (F := F) i)
    = mix 15#32 17#32 (val_main_v85 (F := F) i, val_main_v91 (F := F) i) := by
  rw [val_main_v98_apply, val_main_v92_apply, val_main_v97_apply, val_main_v94_apply, val_main_v93_apply,
    val_main_c_29_apply, val_main_v96_apply, val_main_v95_apply, val_main_c_30_apply]
  exact mix_host _ _ (by decide) (by decide) _ _

theorem round_105 (i : S64x10x100000.Idx) : (val_main_v99 (F := F) i, val_main_v105 (F := F) i)
    = mix 26#32 6#32 (val_main_v92 (F := F) i, val_main_v98 (F := F) i) := by
  rw [val_main_v105_apply, val_main_v99_apply, val_main_v104_apply, val_main_v101_apply, val_main_v100_apply,
    val_main_c_31_apply, val_main_v103_apply, val_main_v102_apply, val_main_c_32_apply]
  exact mix_host _ _ (by decide) (by decide) _ _

theorem round_112 (i : S64x10x100000.Idx) : (val_main_v106 (F := F) i, val_main_v112 (F := F) i)
    = mix 6#32 26#32 (val_main_v99 (F := F) i, val_main_v105 (F := F) i) := by
  rw [val_main_v112_apply, val_main_v106_apply, val_main_v111_apply, val_main_v108_apply, val_main_v107_apply,
    val_main_c_33_apply, val_main_v110_apply, val_main_v109_apply, val_main_c_34_apply]
  exact mix_host _ _ (by decide) (by decide) _ _

theorem keys_117 (i : S64x10x100000.Idx) : (val_main_v114 (F := F) i, val_main_v117 (F := F) i)
    = inject 0#32 45#32 (val_main_v106 (F := F) i, val_main_v112 (F := F) i) := by
  rw [val_main_v114_apply, val_main_v113_apply, val_main_c_35_apply, val_main_v117_apply, val_main_v116_apply,
    val_main_v115_apply, val_main_c_36_apply, val_main_c_37_apply]
  exact inject_host _ _ _ _ _ _ (by decide) (by decide)

theorem round_124 (i : S64x10x100000.Idx) : (val_main_v118 (F := F) i, val_main_v124 (F := F) i)
    = mix 17#32 15#32 (val_main_v114 (F := F) i, val_main_v117 (F := F) i) := by
  rw [val_main_v124_apply, val_main_v118_apply, val_main_v123_apply, val_main_v120_apply, val_main_v119_apply,
    val_main_c_38_apply, val_main_v122_apply, val_main_v121_apply, val_main_c_39_apply]
  exact mix_host _ _ (by decide) (by decide) _ _

theorem round_131 (i : S64x10x100000.Idx) : (val_main_v125 (F := F) i, val_main_v131 (F := F) i)
    = mix 29#32 3#32 (val_main_v118 (F := F) i, val_main_v124 (F := F) i) := by
  rw [val_main_v131_apply, val_main_v125_apply, val_main_v130_apply, val_main_v127_apply, val_main_v126_apply,
    val_main_c_40_apply, val_main_v129_apply, val_main_v128_apply, val_main_c_41_apply]
  exact mix_host _ _ (by decide) (by decide) _ _

theorem round_138 (i : S64x10x100000.Idx) : (val_main_v132 (F := F) i, val_main_v138 (F := F) i)
    = mix 16#32 16#32 (val_main_v125 (F := F) i, val_main_v131 (F := F) i) := by
  rw [val_main_v138_apply, val_main_v132_apply, val_main_v137_apply, val_main_v134_apply, val_main_v133_apply,
    val_main_c_42_apply, val_main_v136_apply, val_main_v135_apply, val_main_c_43_apply]
  exact mix_host _ _ (by decide) (by decide) _ _

theorem round_145 (i : S64x10x100000.Idx) : (val_main_v139 (F := F) i, val_main_v145 (F := F) i)
    = mix 24#32 8#32 (val_main_v132 (F := F) i, val_main_v138 (F := F) i) := by
  rw [val_main_v145_apply, val_main_v139_apply, val_main_v144_apply, val_main_v141_apply, val_main_v140_apply,
    val_main_c_44_apply, val_main_v143_apply, val_main_v142_apply, val_main_c_45_apply]
  exact mix_host _ _ (by decide) (by decide) _ _

theorem keys_150 (i : S64x10x100000.Idx) : (val_main_v147 (F := F) i, val_main_v150 (F := F) i)
    = inject 42#32 466689012#32 (val_main_v139 (F := F) i, val_main_v145 (F := F) i) := by
  rw [val_main_v147_apply, val_main_v146_apply, val_main_c_46_apply, val_main_v150_apply, val_main_v149_apply,
    val_main_v148_apply, val_main_v14_apply, val_main_v13_apply, val_main_c_2_apply, val_main_c_3_apply, val_main_c_4_apply,
    val_main_c_47_apply]
  exact inject_host _ _ _ _ _ _ (by decide) (by decide)

theorem round_157 (i : S64x10x100000.Idx) : (val_main_v151 (F := F) i, val_main_v157 (F := F) i)
    = mix 13#32 19#32 (val_main_v147 (F := F) i, val_main_v150 (F := F) i) := by
  rw [val_main_v157_apply, val_main_v151_apply, val_main_v156_apply, val_main_v153_apply, val_main_v152_apply,
    val_main_c_48_apply, val_main_v155_apply, val_main_v154_apply, val_main_c_49_apply]
  exact mix_host _ _ (by decide) (by decide) _ _

theorem round_164 (i : S64x10x100000.Idx) : (val_main_v158 (F := F) i, val_main_v164 (F := F) i)
    = mix 15#32 17#32 (val_main_v151 (F := F) i, val_main_v157 (F := F) i) := by
  rw [val_main_v164_apply, val_main_v158_apply, val_main_v163_apply, val_main_v160_apply, val_main_v159_apply,
    val_main_c_50_apply, val_main_v162_apply, val_main_v161_apply, val_main_c_51_apply]
  exact mix_host _ _ (by decide) (by decide) _ _

theorem round_171 (i : S64x10x100000.Idx) : (val_main_v165 (F := F) i, val_main_v171 (F := F) i)
    = mix 26#32 6#32 (val_main_v158 (F := F) i, val_main_v164 (F := F) i) := by
  rw [val_main_v171_apply, val_main_v165_apply, val_main_v170_apply, val_main_v167_apply, val_main_v166_apply,
    val_main_c_52_apply, val_main_v169_apply, val_main_v168_apply, val_main_c_53_apply]
  exact mix_host _ _ (by decide) (by decide) _ _

theorem round_178 (i : S64x10x100000.Idx) : (val_main_v172 (F := F) i, val_main_v178 (F := F) i)
    = mix 6#32 26#32 (val_main_v165 (F := F) i, val_main_v171 (F := F) i) := by
  rw [val_main_v178_apply, val_main_v172_apply, val_main_v177_apply, val_main_v174_apply, val_main_v173_apply,
    val_main_c_54_apply, val_main_v176_apply, val_main_v175_apply, val_main_c_55_apply]
  exact mix_host _ _ (by decide) (by decide) _ _

theorem keys_183 (i : S64x10x100000.Idx) : (val_main_v180 (F := F) i, val_main_v183 (F := F) i)
    = inject 466689008#32 5#32 (val_main_v172 (F := F) i, val_main_v178 (F := F) i) := by
  rw [val_main_v180_apply, val_main_v179_apply, val_main_v14_apply, val_main_v13_apply, val_main_c_2_apply,
    val_main_c_3_apply, val_main_c_4_apply, val_main_v183_apply, val_main_v182_apply, val_main_v181_apply,
    val_main_c_56_apply, val_main_c_57_apply]
  exact inject_host _ _ _ _ _ _ (by decide) (by decide)

/-- The first round, whose first word is zero. -/
theorem first_round (i : S64x10x100000.Idx) : (val_main_v19 (F := F) i, val_main_v25 (F := F) i)
    = (val_main_v18 (F := F) i, IntOp.xori (val_main_v18 (F := F) i) (rot 13#32 19#32 (val_main_v18 (F := F) i))) := by
  have h19 : val_main_v19 (F := F) i = val_main_v18 (F := F) i := by
    rw [val_main_v19_apply, val_main_v16_apply, val_main_v12_apply, val_main_c_1_apply, val_main_v15_apply,
    val_main_c_5_apply]
    show (0#32 + 0#32) + val_main_v18 (F := F) i = _
    rw [BitVec.zero_add, BitVec.zero_add]
  rw [val_main_v25_apply, val_main_v24_apply, val_main_v21_apply, val_main_v20_apply, val_main_c_7_apply,
    val_main_v23_apply, val_main_v22_apply, val_main_c_8_apply, rot_host _ _ _ (by decide) (by decide), h19]

/-- The reference's bits of an element. -/
theorem bits_apply (i : S64x10x100000.Idx) : val_main_v184 (F := F) i = bits (val_main_v18 (F := F) i) := by
  have h : (val_main_v180 (F := F) i, val_main_v183 (F := F) i)
      = groups (val_main_v18 (F := F) i, IntOp.xori (val_main_v18 (F := F) i) (rot 13#32 19#32 (val_main_v18 (F := F) i))) := by
    rw [keys_183, round_178, round_171, round_164, round_157, keys_150, round_145, round_138, round_131, round_124, keys_117, round_112, round_105, round_98, round_91, keys_84, round_79, round_72, round_65, round_58, keys_51, round_46, round_39, round_32, first_round]
    generalize val_main_v18 (F := F) i = t
    unfold groups roundsA roundsB roundsA'
    rfl
  unfold bits
  rw [← h, val_main_v184_apply]

/-- The word of an element: its index in the array, plus the key's low word. -/
theorem word_apply (i : S64x10x100000.Idx) :
    val_main_v18 (F := F) i = BitVec.ofNat 32 (((i 0).val * 10 + (i 1).val) * 100000 + 42 + (i 2).val) := by
  rw [val_main_v18_apply, val_main_v11_apply, val_main_v10_apply, val_main_v7_apply, val_main_v3_apply, val_main_v6_apply,
    val_main_c_apply, val_main_v9_apply, val_main_v4_apply, val_main_v8_apply, val_main_c_0_apply, val_main_v5_apply,
    val_main_v17_apply, val_main_c_6_apply]
  show ((BitVec.ofNat 32 (i 0).val * BitVec.ofNat 32 1000000 + BitVec.ofNat 32 (i 1).val * BitVec.ofNat 32 100000)
    + BitVec.ofNat 32 (i 2).val) + BitVec.ofNat 32 42 = _
  rw [← BitVec.ofNat_mul, ← BitVec.ofNat_mul, ← BitVec.ofNat_add, ← BitVec.ofNat_add, ← BitVec.ofNat_add]
  exact congrArg _ (by ring)

/-- The reference's uniform draw of an element. -/
theorem draw_apply (i : S64x10x100000.Idx) : val_main_v193 (F := Ideal) i = draw (F := Ideal) (bits (val_main_v18 (F := Ideal) i)) := by
  rw [← bits_apply]
  rw [val_main_v193_apply, val_main_v191_apply, val_main_v189_apply, val_main_v188_apply, val_main_v186_apply,
    val_main_v185_apply, val_main_c_58_apply, val_main_v187_apply, val_main_c_59_apply, val_main_v190_apply,
    val_main_cst_60_apply, val_main_v192_apply, val_main_cst_61_apply]
  generalize val_main_v184 (F := Ideal) i = t
  have e : IntOp.shrui .host t 9#32 = IntOp.shrui .vector t 9#32 := rfl
  unfold draw
  rw [e]

/-- The reference's score of an element. -/
theorem score_apply (x : FVec Ideal S64x10x100000 .f32) (i : S64x10x100000.Idx) :
    val_main_v198 (F := Ideal) x i = score (F := Ideal) (x i) (val_main_v18 (F := Ideal) i) := by
  have e : val_main_v198 (F := Ideal) x i = (-(Ideal.log (-(Ideal.log (val_main_v193 (F := Ideal) i)))) : EReal)
      + Ideal.log (x i + Ideal.ofBits .f32 0x1E3CE508#32) := by
    rw [val_main_v198_apply, val_main_v197_apply, val_main_v196_apply, val_main_v195_apply, val_main_v194_apply,
    val_main_v2_apply, val_main_v1_apply, val_main_v0_apply, val_main_cst_apply]
    generalize val_main_v193 (F := Ideal) i = u
    rfl
  have z : (Scalar.ofBits (F := Ideal) .f32 0x00000000#32 : EReal) = 0 := by
    show Ideal.ofBits .f32 0x00000000#32 = 0
    simp
  rw [e, draw_apply]
  unfold score
  rw [z]
  show _ = Ideal.log (x i + Ideal.ofBits .f32 0x1E3CE508#32) + ((0 : EReal) - Ideal.log ((0 : EReal) - Ideal.log (draw (F := Ideal) (bits (val_main_v18 (F := Ideal) i)))))
  rw [zero_sub, zero_sub, add_comm]

end Cert.ReferenceIdeal.Hand
-- ==== Proof.Pick.lean ====
/-
  The reference's result, over the extended reals: for each row, the first column that attains the row's maximum.
-/
module

public import proofs.«01_k».proof.Proof.Draws
public import proofs.«01_k».proof.Proof.First

@[expose] public section

noncomputable section

namespace Cert.ReferenceIdeal.Hand

open Cert.ReferenceIdeal Cert.ReferenceIdeal.Gen Cert.ReferenceIdeal.Read Cert.Draw
open Cert.KernelIdeal.Hand (score)
open Idealize.ShloMosaic

/-- The score of column `c` of row `(b, k)`. -/
def refScore (x : FVec Ideal S64x10x100000 .f32) (b : Fin 64) (k : Fin 10) (c : ℕ) : EReal :=
  val_main_v198 (F := Ideal) x (ValueIdx.ix3 b k ⟨c % 100000, Nat.mod_lt _ (by decide)⟩)

/-- The entries a row's reduction folds over are those of the row. -/
theorem mem_row (b : Fin 64) (k : Fin 10) (i : S64x10x100000.Idx) :
    (i ∈ Finset.univ.filter fun i : S64x10x100000.Idx => reducesTo_S64x10x100000_S64x10_d2.drop i = (ValueIdx.ix2 b k : S64x10.Idx))
      ↔ ∃ c : Fin 100000, i = ValueIdx.ix3 b k c := by
  have d0 := reducesTo_S64x10x100000_S64x10_d2.drop_apply_val_of_eq i 0 0
  have d1 := reducesTo_S64x10x100000_S64x10_d2.drop_apply_val_of_eq i 1 1
  rw [Finset.mem_filter]
  constructor
  · rintro ⟨-, h⟩
    rw [h] at d0 d1
    refine ⟨i 2, funext fun a => ?_⟩
    match a with
    | ⟨0, _⟩ => exact Fin.ext d0.symm
    | ⟨1, _⟩ => exact Fin.ext d1.symm
    | ⟨2, _⟩ => rfl
  · rintro ⟨c, rfl⟩
    refine ⟨Finset.mem_univ _, funext fun a => ?_⟩
    match a with
    | ⟨0, _⟩ => exact Fin.ext d0
    | ⟨1, _⟩ => exact Fin.ext d1

theorem refScore_val (x : FVec Ideal S64x10x100000 .f32) (b : Fin 64) (k : Fin 10) (c : Fin 100000) :
    val_main_v198 (F := Ideal) x (ValueIdx.ix3 b k c) = refScore x b k c.val := by
  unfold refScore
  exact congrArg _ (congrArg (ValueIdx.ix3 b k) (Fin.ext (Nat.mod_eq_of_lt c.isLt).symm))

/-- A row's maximum. -/
theorem best_apply (x : FVec Ideal S64x10x100000 .f32) (b : Fin 64) (k : Fin 10) (w : ℕ) (hf : First (refScore x b k) 100000 w) :
    val_main_v199 (F := Ideal) x (ValueIdx.ix2 b k) = refScore x b k w := by
  unfold val_main_v199
  refine (Host.reduce_eq_fold _ _ _ _ _ _).trans (fold_max _ _ _ _ ?_ (fun i hi => ?_) ⟨ValueIdx.ix3 b k ⟨w, hf.lt⟩, (mem_row b k _).2 ⟨_, rfl⟩, ?_⟩)
  · rw [val_main_cst_62_apply]
    show Ideal.ofBits .f32 0xFF800000#32 = ⊥
    simp [Ideal.ofBits, Ideal.ieee]
  · obtain ⟨c, rfl⟩ := (mem_row b k i).1 hi
    rw [refScore_val]
    exact hf.le _ c.isLt
  · exact refScore_val x b k ⟨w, hf.lt⟩

/-- A small word read as an integer. -/
theorem toInt_ofNat {n : ℕ} (h : n < 2147483648) : (BitVec.ofNat 32 n).toInt = (n : ℤ) := by
  rw [BitVec.toInt_eq_toNat_of_lt (by rw [BitVec.toNat_ofNat]; omega), BitVec.toNat_ofNat, Nat.mod_eq_of_lt (by omega)]

/-- A row's result: the first column that attains the row's maximum. -/
theorem result_apply (x : FVec Ideal S64x10x100000 .f32) (b : Fin 64) (k : Fin 10) (w : ℕ) (hf : First (refScore x b k) 100000 w) :
    val_main_v205 (F := Ideal) x (ValueIdx.ix2 b k) = BitVec.ofNat 32 w := by
  have hw := hf.lt
  have htop : (BitVec.ofNat 32 w).toInt ≤ (2147483647#32 : BitVec 32).toInt := by
    rw [toInt_ofNat (by omega), show (2147483647#32 : BitVec 32).toInt = 2147483647 from rfl]; omega
  have hmid : (BitVec.ofNat 32 w).toInt ≤ (100000#32 : BitVec 32).toInt := by
    rw [toInt_ofNat (by omega), show (100000#32 : BitVec 32).toInt = 100000 from rfl]; omega
  have key := fold_pick (Finset.univ.filter fun i : S64x10x100000.Idx => reducesTo_S64x10x100000_S64x10_d2.drop i = (ValueIdx.ix2 b k : S64x10.Idx))
    (val_main_v198 (F := Ideal) x) (fun i => BitVec.ofNat 32 (i 2).val) (refScore x b k w) 2147483647#32 100000#32
    (BitVec.ofNat 32 w) htop hmid (fun i hi e => ?_)
    ⟨ValueIdx.ix3 b k ⟨w, hw⟩, (mem_row b k _).2 ⟨_, rfl⟩, refScore_val x b k ⟨w, hw⟩, congrArg (BitVec.ofNat 32) (Eq.refl w)⟩
  · unfold val_main_v205
    refine (Host.reduce_eq_fold _ _ _ _ _ _).trans ?_
    rw [val_main_c_64_apply, ← key]
    refine Finset.fold_congr fun i hi => ?_
    obtain ⟨c, rfl⟩ := (mem_row b k i).1 hi
    have hd : idx_main_v200 (idx_main_v202 (ValueIdx.ix3 b k c)) = ValueIdx.ix2 b k := by
      funext a
      match a with
      | ⟨0, _⟩ => rfl
      | ⟨1, _⟩ => rfl
    rw [val_main_v204_apply, val_main_v203_apply, val_main_v202_apply, val_main_v200_apply, hd, best_apply x b k w hf,
      val_main_v201_apply, val_main_call0_v1_apply, val_main_call0_v0_apply, val_main_c_63_apply]
  · obtain ⟨c, rfl⟩ := (mem_row b k i).1 hi
    rw [refScore_val] at e
    have hwc : w ≤ c.val := not_lt.1 fun h => (hf.before _ h).ne e
    show (BitVec.ofNat 32 w).toInt ≤ (BitVec.ofNat 32 c.val).toInt
    have hc := c.isLt
    rw [toInt_ofNat (by omega), toInt_ofNat (by omega)]
    exact_mod_cast hwc

end Cert.ReferenceIdeal.Hand
-- ==== Proof.Drawable.lean ====
/-
  The precondition: every row has a weight that is not negative; and such a weight's score is above `-∞`.
-/
module

public import proofs.«01_k».proof.Proof.Chunk
public import proofs.«01_k».proof.Proof.Gen.Pre_drawable
public import Idealize.ShloMosaic.PureOps.Reduce
public import Idealize.ShloMosaic.PureOps.Ideal.Laws

@[expose] public section

noncomputable section

namespace Cert.Draw

open Idealize.ShloMosaic

/-- A conjunction of bits that is one has every bit one. -/
theorem fold_and {ι : Type} [DecidableEq ι] (S : Finset ι) (b : BitVec 1) (f : ι → BitVec 1) (h : S.fold IntOp.andi b f = 1#1) :
    ∀ i ∈ S, f i = 1#1 := by
  have both : ∀ x y : BitVec 1, IntOp.andi x y = 1#1 → x = 1#1 ∧ y = 1#1 := by decide
  induction S using Finset.induction_on with
  | empty => intro i hi; exact absurd hi (Finset.notMem_empty i)
  | insert a S ha ih =>
    rw [Finset.fold_insert ha] at h
    obtain ⟨h1, h2⟩ := both _ _ h
    intro i hi
    rcases Finset.mem_insert.1 hi with rfl | hi
    · exact h1
    · exact ih h2 i hi

/-- A disjunction of bits, from zero, that is one has a bit one. -/
theorem fold_or {ι : Type} [DecidableEq ι] (S : Finset ι) (f : ι → BitVec 1) (h : S.fold IntOp.ori 0#1 f = 1#1) :
    ∃ i ∈ S, f i = 1#1 := by
  have one : ∀ x y : BitVec 1, IntOp.ori x y = 1#1 → x = 1#1 ∨ y = 1#1 := by decide
  induction S using Finset.induction_on with
  | empty => exact absurd (show (0#1 : BitVec 1) = 1#1 from h) (by decide)
  | insert a S ha ih =>
    rw [Finset.fold_insert ha] at h
    rcases one _ _ h with h | h
    · exact ⟨a, Finset.mem_insert_self _ _, h⟩
    · obtain ⟨i, hi, e⟩ := ih h
      exact ⟨i, Finset.mem_insert_of_mem hi, e⟩

/-- The logarithm of a positive value is above `-∞`. -/
theorem bot_lt_log {x : EReal} (h : 0 < x) : ⊥ < Ideal.log x := by
  induction x with
  | bot => exact absurd h (by simp)
  | top => exact bot_lt_top
  | coe r =>
    have hr : ¬ r ≤ 0 := not_le.2 (by exact_mod_cast h)
    show ⊥ < (if r ≤ 0 then ⊥ else (Real.log r : EReal))
    rw [if_neg hr]
    exact EReal.bot_lt_coe _

/-- The logarithm of a value that is not `+∞` is not `+∞`. -/
theorem log_ne_top {x : EReal} (h : x ≠ ⊤) : Ideal.log x ≠ ⊤ := by
  induction x with
  | bot => exact bot_ne_top
  | top => exact absurd rfl h
  | coe r =>
    show (if r ≤ 0 then ⊥ else (Real.log r : EReal)) ≠ ⊤
    split_ifs
    · exact bot_ne_top
    · exact EReal.coe_ne_top _

/-- A positive pattern. -/
theorem tiny_pos : (0 : EReal) < Scalar.ofBits (F := Ideal) .f32 0x00800000#32 := by
  show 0 < Ideal.ieee 8 23 0x00800000#32
  simp [Ideal.ieee]
  rw [← EReal.coe_mul]
  exact EReal.coe_pos.2 (by positivity)

theorem eps_pos : (0 : EReal) < Scalar.ofBits (F := Ideal) .f32 0x1E3CE508#32 := by
  show 0 < Ideal.ieee 8 23 0x1E3CE508#32
  simp [Ideal.ieee]
  rw [← EReal.coe_mul]
  exact EReal.coe_pos.2 (by positivity)

/-- The score of a weight that is not negative is above `-∞`. -/
theorem bot_lt_score (w : EReal) (hw : 0 ≤ w) (t : BitVec 32) : ⊥ < Cert.KernelIdeal.Hand.score (F := Ideal) w t := by
  have hu : (0 : EReal) < Cert.KernelIdeal.Hand.draw (F := Ideal) (Cert.KernelIdeal.Hand.bits t) :=
    tiny_pos.trans_le (le_max_right _ _)
  have z : (Scalar.ofBits (F := Ideal) .f32 0x00000000#32 : EReal) = 0 := by
    show Ideal.ofBits .f32 0x00000000#32 = 0
    simp
  unfold Cert.KernelIdeal.Hand.score
  rw [z]
  generalize Cert.KernelIdeal.Hand.draw (F := Ideal) (Cert.KernelIdeal.Hand.bits t) = u at hu ⊢
  show ⊥ < Ideal.log (w + Scalar.ofBits (F := Ideal) .f32 0x1E3CE508#32) + ((0 : EReal) - Ideal.log ((0 : EReal) - Ideal.log u))
  have h1 : ⊥ < Ideal.log (w + Scalar.ofBits (F := Ideal) .f32 0x1E3CE508#32) :=
    bot_lt_log (eps_pos.trans_le (le_add_of_nonneg_left hw))
  have h2 : Ideal.log ((0 : EReal) - Ideal.log u) ≠ ⊤ := by
    refine log_ne_top ?_
    rw [zero_sub]
    exact fun e => (bot_lt_log hu).ne' (EReal.neg_eq_top_iff.1 e)
  rw [zero_sub]
  refine bot_lt_iff_ne_bot.2 fun e => ?_
  rcases EReal.add_eq_bot_iff.1 e with e | e
  · exact h1.ne' e
  · exact h2 (EReal.neg_eq_bot_iff.1 e)

end Cert.Draw

namespace Cert.Pre_drawable

open Idealize.ShloMosaic Cert.Draw

variable [Facts]
open Facts

/-- The precondition gives every row a weight that is not negative. -/
theorem exists_nonneg (x : FVec Ideal S64x10x100000 .f32) (h : fn (F := Ideal) x = fun _ => 1#1) (j : S64x10.Idx) :
    ∃ i : S64x10x100000.Idx, (i 0).val = (j 0).val ∧ (i 1).val = (j 1).val ∧ (0 : EReal) ≤ x i := by
  classical
  have h0 := congrFun h (Shape.Idx.first h_S_)
  have h1 : Host.reduce IntOp.andi (Host.reduce IntOp.ori (cmpf (F := Ideal) .oge x
      (broadcastInDim S64x10x100000 ![] bcast_S_S64x10x100000 (constant (F := Ideal) S_ .f32 0x00000000#32))) (constantI S_ 1 0#1)
      reducesTo_S64x10x100000_S64x10_d2 h_S_) (constantI S_ 1 1#1) reducesTo_S64x10_S_d0_1 h_S_ (Shape.Idx.first h_S_) = 1#1 := h0
  rw [Host.reduce_eq_fold] at h1
  have h2 := fold_and _ _ _ h1 j (Finset.mem_filter.2 ⟨Finset.mem_univ _, funext fun a => a.elim0⟩)
  rw [Host.reduce_eq_fold] at h2
  obtain ⟨i, hi, e⟩ := fold_or _ _ h2
  have hd := (Finset.mem_filter.1 hi).2
  refine ⟨i, ?_, ?_, ?_⟩
  · rw [← hd]; exact (reducesTo_S64x10x100000_S64x10_d2.drop_apply_val_of_eq i 0 0).symm
  · rw [← hd]; exact (reducesTo_S64x10x100000_S64x10_d2.drop_apply_val_of_eq i 1 1).symm
  · have e' : BitVec.ofBool (decide (Ideal.ofBits .f32 0x00000000#32 ≤ x i)) = 1#1 := e
    have z : Ideal.ofBits .f32 0x00000000#32 = (0 : EReal) := by simp
    rw [z] at e'
    by_contra hn
    rw [decide_eq_false hn] at e'
    exact absurd e' (by decide)

end Cert.Pre_drawable
-- ==== Proof.Equation.lean ====
/-
  The kernel's result is the reference's: both are, row by row, the first column that attains the maximum of the same scores.
-/
module

public import proofs.«01_k».proof.Defs
public import proofs.«01_k».proof.Proof.Entry
public import proofs.«01_k».proof.Proof.Pick
public import proofs.«01_k».proof.Proof.Drawable
public import proofs.«01_k».proof.Proof.Gen.KernelIdeal
public import proofs.«01_k».proof.Proof.Gen.ReferenceIdeal
public import Idealize.ShloMosaic.Lib.Claim

@[expose] public section

noncomputable section

namespace Cert.Proof

open Idealize.ShloMosaic Idealize.ShloMosaic.TcCoe Idealize.SL.Sem Cert.Draw
open Cert.KernelIdeal.Hand (rowScore flat score)
open Cert.ReferenceIdeal.Hand (refScore)

/-- Both programs give a column of a row the same score. -/
theorem rowScore_eq (x : FVec Ideal Cert.KernelIdeal.S64x10x100000 .f32) (b : Fin 64) (k : Fin 10) (c : Fin 100000) :
    rowScore (flat x) (b.val * 10 + k.val) c.val = refScore x b k c.val := by
  have hb := b.isLt
  have hk := k.isLt
  have e : (ValueIdx.ix2 ⟨(b.val * 10 + k.val) % 640, Nat.mod_lt _ (by decide)⟩ ⟨c.val % 100000, Nat.mod_lt _ (by decide)⟩
      : Cert.KernelIdeal.S640x100000.Idx) = ValueIdx.ix2 ⟨b.val * 10 + k.val, by omega⟩ c :=
    congrArg₂ ValueIdx.ix2 (Fin.ext (Nat.mod_eq_of_lt (by omega))) (Fin.ext (Nat.mod_eq_of_lt c.isLt))
  rw [← Cert.ReferenceIdeal.Hand.refScore_val, Cert.ReferenceIdeal.Hand.score_apply, Cert.ReferenceIdeal.Hand.word_apply]
  unfold rowScore
  rw [e, Cert.KernelIdeal.Hand.flat_apply]

/-- The two programs' results of the same weights. -/
theorem result_eq (m : (ℓ : Loc Cert.KernelIdeal.nD Cert.KernelIdeal.τ Cert.KernelIdeal.sig) → Buf (Elt Ideal) ℓ)
    (c : Dev Cert.KernelIdeal.nD) (x : FVec Ideal Cert.KernelIdeal.S64x10x100000 .f32)
    (hx : m ((c.tc : Thread Cert.KernelIdeal.nD Cert.KernelIdeal.τ).loc Cert.KernelIdeal.main_arg0) = x)
    (hp : Cert.Pre_drawable.fn (F := Ideal) x = fun _ => 1#1) :
    shapeCast Cert.KernelIdeal.S64x10 (Cert.KernelIdeal.Hand.results m c) Cert.KernelIdeal.Facts₀.shapeCasts_S80x1x8_S64x10
      = Cert.ReferenceIdeal.Read.val_main_v205 (F := Ideal) x := by
  funext j
  obtain ⟨b, k, rfl⟩ : ∃ (b : Fin 64) (k : Fin 10), j = ValueIdx.ix2 b k :=
    ⟨j 0, j 1, funext fun a => match a with | ⟨0, _⟩ => rfl | ⟨1, _⟩ => rfl⟩
  obtain ⟨w, hw⟩ := exists_first (refScore x b k) (n := 100000) (by decide)
  obtain ⟨i, h0, h1, hi⟩ := Cert.Pre_drawable.exists_nonneg x hp (ValueIdx.ix2 b k)
  have hs : ∀ c, c < 100000 → rowScore (flat x) (b.val * 10 + k.val) c = refScore x b k c :=
    fun c hc => rowScore_eq x b k ⟨c, hc⟩
  have hwl := hw.lt
  have hf : First (rowScore (flat x) (b.val * 10 + k.val)) 100000 w :=
    ⟨hw.lt, fun c hc => by rw [hs c hc, hs w hwl]; exact hw.le c hc,
      fun c hc => by rw [hs c (hc.trans hwl), hs w hwl]; exact hw.before c hc⟩
  have hpos : ⊥ < refScore x b k w := by
    obtain ⟨a, rfl⟩ : ∃ a : Fin 100000, i = ValueIdx.ix3 b k a := ⟨i 2, funext fun d => match d with
      | ⟨0, _⟩ => Fin.ext h0
      | ⟨1, _⟩ => Fin.ext h1
      | ⟨2, _⟩ => rfl⟩
    refine lt_of_lt_of_le ?_ (hw.le a.val a.isLt)
    rw [← Cert.ReferenceIdeal.Hand.refScore_val x b k a, Cert.ReferenceIdeal.Hand.score_apply]
    exact bot_lt_score _ hi _
  rw [Cert.ReferenceIdeal.Hand.result_apply x b k w hw]
  subst hx
  exact Cert.KernelIdeal.Hand.result_apply m c b k w hf (by rw [hs w hwl]; exact hpos)

/-- From the same weights, the kernel and the reference end with the same result. -/
theorem algebraic : Cert.algebraic_KernelIdeal_ReferenceIdeal_pre_drawable (hKernelIdeal := Cert.KernelIdeal.Gen.facts)
    (hReferenceIdeal := Cert.ReferenceIdeal.Gen.facts) (hPre_drawable := Cert.Pre_drawable.Gen.facts) := by
  intro m g m' g' hp hm
  refine ⟨fun c => shapeCast Cert.KernelIdeal.S64x10 (Cert.KernelIdeal.Hand.results m c)
      Cert.KernelIdeal.Facts₀.shapeCasts_S80x1x8_S64x10, ?_, ?_⟩
  · exact (θ_run Cert.KernelIdeal.defs _ _).mono (fun r h c => h.1 c) (Cert.KernelIdeal.Hand.ends (F := Ideal) m g)
  · refine (θ_run Cert.ReferenceIdeal.defs _ _).mono (fun r h c => ⟨?_, (h c).2⟩) (Cert.ReferenceIdeal.Value.run (F := Ideal) m' g')
    rw [(h c).1, Cert.ReferenceIdeal.Read.val_main_v205_eq, StableHlo.launchContents_devRef]
    exact (result_eq m c _ (hm c).symm (by rw [hm c]; exact hp c)).symm

end Cert.Proof
-- ==== Proof.lean ====
/-
  The kernel draws from a categorical distribution by the Gumbel-max trick. This file puts the claims together from the
  modules that prove them.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_drawable
public import proofs.«01_k».proof.Proof.Machine
public import proofs.«01_k».proof.Proof.RefFrame
public import proofs.«01_k».proof.Proof.Equation

@[expose] public section

noncomputable section

namespace Cert.Proof

open Idealize.ShloMosaic Idealize.SL.Sem

/-- Every claim of this directory. -/
theorem claim : Cert.Claim :=
  ⟨Cert.Kernel.Gen.facts, Cert.KernelIdeal.Gen.facts, Cert.ReferenceIdeal.Gen.facts, Cert.Pre_drawable.Gen.facts,
    quiescent_Kernel, quiescent_KernelIdeal, fun m g _ => quiescent_KernelIdeal m g trivial,
    quiescent_ReferenceIdeal, fun m g _ => quiescent_ReferenceIdeal m g trivial, trivial, algebraic⟩

end Cert.Proof

end
